-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29_0) = v0 c
          ∧ r.2.mem ((c.tc : Thread Cert.ReferenceIdeal.nD Cert.ReferenceIdeal.τ).loc Cert.ReferenceIdeal.main_v29_1) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x3072x2816 : Shape := ⟨3, ![4, 3072, 2816]⟩
abbrev S30848x2816 : Shape := ⟨2, ![30848, 2816]⟩
abbrev S30848 : Shape := ⟨1, ![30848]⟩
abbrev S4x3072x30848 : Shape := ⟨3, ![4, 3072, 30848]⟩
abbrev S12288x2816 : Shape := ⟨2, ![12288, 2816]⟩
abbrev S1x30848 : Shape := ⟨2, ![1, 30848]⟩
abbrev S12288x30848 : Shape := ⟨2, ![12288, 30848]⟩
abbrev S12288x1 : Shape := ⟨2, ![12288, 1]⟩
abbrev S1024x2816 : Shape := ⟨2, ![1024, 2816]⟩
abbrev S1x1024 : Shape := ⟨2, ![1, 1024]⟩
abbrev S1024x1024 : Shape := ⟨2, ![1024, 1024]⟩
abbrev S1024x1 : Shape := ⟨2, ![1024, 1]⟩
abbrev S1024 : Shape := ⟨1, ![1024]⟩
abbrev S1x256 : Shape := ⟨2, ![1, 256]⟩
abbrev S1024x256 : Shape := ⟨2, ![1024, 256]⟩
abbrev S4x3072x1 : Shape := ⟨3, ![4, 3072, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x3072x2816, .bf16⟩
  | .hbm, ⟨1, _⟩ => ⟨S30848x2816, .fp8e4m3⟩
  | .hbm, ⟨2, _⟩ => ⟨S30848, .f32⟩
  | .hbm, ⟨3, _⟩ => ⟨S4x3072x30848, .bf16⟩
  | .hbm, ⟨4, _⟩ => ⟨S12288x2816, .bf16⟩
  | .hbm, ⟨5, _⟩ => ⟨S1x30848, .f32⟩
  | .hbm, ⟨6, _⟩ => ⟨S12288x30848, .bf16⟩
  | .hbm, ⟨7, _⟩ => ⟨S12288x30848, .bf16⟩
  | .hbm, ⟨8, _⟩ => ⟨S12288x2816, .fp8e4m3⟩
  | .hbm, ⟨9, _⟩ => ⟨S12288x1, .f32⟩
  | .hbm, ⟨10, _⟩ => ⟨S4x3072x30848, .bf16⟩
  | .hbm, ⟨11, _⟩ => ⟨S4x3072x2816, .fp8e4m3⟩
  | .hbm, ⟨12, _⟩ => ⟨S4x3072x1, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .fp8e4m3⟩
  | .local _ .vmem, ⟨3, _⟩ => ⟨S1024x2816, .fp8e4m3⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2816, .fp8e4m3⟩
  | .local _ .vmem, ⟨11, _⟩ => ⟨S1024x2816, .fp8e4m3⟩
  | .local _ .vmem, ⟨12, _⟩ => ⟨S1024x1, .f32⟩
  | .local _ .vmem, ⟨13, _⟩ => ⟨S1024x1, .f32⟩
  | _, _ => ⟨S4x3072x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 31], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2816 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2816 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x3072x2816 : Shape := ⟨3, ![4, 3072, 2816]⟩
abbrev S30848x2816 : Shape := ⟨2, ![30848, 2816]⟩
abbrev S30848 : Shape := ⟨1, ![30848]⟩
abbrev S4x3072x30848 : Shape := ⟨3, ![4, 3072, 30848]⟩
abbrev S253 : Shape := ⟨1, ![253]⟩
abbrev S_ : Shape := ⟨0, ![]⟩
abbrev S4x3072 : Shape := ⟨2, ![4, 3072]⟩
abbrev S4x3072x1 : Shape := ⟨3, ![4, 3072, 1]⟩
abbrev S1x1x253 : Shape := ⟨3, ![1, 1, 253]⟩
abbrev S4x3072x253 : Shape := ⟨3, ![4, 3072, 253]⟩
abbrev S12288x2816 : Shape := ⟨2, ![12288, 2816]⟩
abbrev S12288x1 : Shape := ⟨2, ![12288, 1]⟩
abbrev S1x30848 : Shape := ⟨2, ![1, 30848]⟩
abbrev S12288x30848 : Shape := ⟨2, ![12288, 30848]⟩

abbrev nBuf : Space → Nat
  | .hbm => 53
  | .vmem => 8
  | .smem => 0
  | _ => 0

abbrev bufTy : (tb : Table) → Fin (tcTables nBuf tb) → BufTy
  | .hbm, ⟨0, _⟩ => ⟨S4x3072x2816, .bf16⟩
  | .hbm, ⟨1, _⟩ => ⟨S30848x2816, .fp8e4m3⟩
  | .hbm, ⟨2, _⟩ => ⟨S30848, .f32⟩
  | .hbm, ⟨3, _⟩ => ⟨S4x3072x30848, .bf16⟩
  | .hbm, ⟨4, _⟩ => ⟨S253, .f32⟩
  | .hbm, ⟨5, _⟩ => ⟨S4x3072x2816, .f32⟩
  | .hbm, ⟨6, _⟩ => ⟨S4x3072x2816, .f32⟩
  | .hbm, ⟨7, _⟩ => ⟨S_, .f32⟩
  | .hbm, ⟨8, _⟩ => ⟨S4x3072, .f32⟩
  | .hbm, ⟨9, _⟩ => ⟨S4x3072x1, .f32⟩
  | .hbm, ⟨10, _⟩ => ⟨S_, .f32⟩
  | .hbm, ⟨11, _⟩ => ⟨S4x3072x1, .f32⟩
  | .hbm, ⟨12, _⟩ => ⟨S4x3072x1, .f32⟩
  | .hbm, ⟨13, _⟩ => ⟨S1x1x253, .f32⟩
  | .hbm, ⟨14, _⟩ => ⟨S4x3072x253, .f32⟩
  | .hbm, ⟨15, _⟩ => ⟨S4x3072x253, .f32⟩
  | .hbm, ⟨16, _⟩ => ⟨S4x3072x253, .i1⟩
  | .hbm, ⟨17, _⟩ => ⟨S_, .f32⟩
  | .hbm, ⟨18, _⟩ => ⟨S_, .f32⟩
  | .hbm, ⟨19, _⟩ => ⟨S4x3072x253, .f32⟩
  | .hbm, ⟨20, _⟩ => ⟨S4x3072x253, .f32⟩
  | .hbm, ⟨21, _⟩ => ⟨S4x3072x253, .f32⟩
  | .hbm, ⟨22, _⟩ => ⟨S_, .f32⟩
  | .hbm, ⟨23, _⟩ => ⟨S4x3072, .f32⟩
  | .hbm, ⟨24, _⟩ => ⟨S4x3072x1, .f32⟩
  | .hbm, ⟨25, _⟩ => ⟨S_, .f32⟩
  | .hbm, ⟨26, _⟩ => ⟨S4x3072x1, .f32⟩
  | .hbm, ⟨27, _⟩ => ⟨S4x3072x1, .i1⟩
  | .hbm, ⟨28, _⟩ => ⟨S_, .f32⟩
  | .hbm, ⟨29, _⟩ => ⟨S4x3072x1, .f32⟩
  | .hbm, ⟨30, _⟩ => ⟨S4x3072x1, .i1⟩
  | .hbm, ⟨31, _⟩ => ⟨S4x3072x1, .i1⟩
  | .hbm, ⟨32, _⟩ => ⟨S_, .f32⟩
  | .hbm, ⟨33, _⟩ => ⟨S_, .f32⟩
  | .hbm, ⟨34, _⟩ => ⟨S4x3072x1, .f32⟩
  | .hbm, ⟨35, _⟩ => ⟨S4x3072x1, .f32⟩
  | .hbm, ⟨36, _⟩ => ⟨S_, .f32⟩
  | .hbm, ⟨37, _⟩ => ⟨S4x3072x1, .f32⟩
  | .hbm, ⟨38, _⟩ => ⟨S4x3072x1, .i1⟩
  | .hbm, ⟨39, _⟩ => ⟨S_, .f32⟩
  | .hbm, ⟨40, _⟩ => ⟨S4x3072x1, .f32⟩
  | .hbm, ⟨41, _⟩ => ⟨S4x3072x1, .f32⟩
  | .hbm, ⟨42, _⟩ => ⟨S_, .f32⟩
  | .hbm, ⟨43, _⟩ => ⟨S_, .f32⟩
  | .hbm, ⟨44, _⟩ => ⟨S4x3072x1, .f32⟩
  | .hbm, ⟨45, _⟩ => ⟨S4x3072x1, .f32⟩
  | .hbm, ⟨46, _⟩ => ⟨S12288x2816, .bf16⟩
  | .hbm, ⟨47, _⟩ => ⟨S12288x1, .f32⟩
  | .hbm, ⟨48, _⟩ => ⟨S12288x1, .f32⟩
  | .hbm, ⟨49, _⟩ => ⟨S1x30848, .f32⟩
  | .hbm, ⟨50, _⟩ => ⟨S12288x30848, .bf16⟩
  | .hbm, ⟨51, _⟩ => ⟨S4x3072x30848, .bf16⟩
  | .hbm, ⟨52, _⟩ => ⟨S4x3072x2816, .fp8e4m3⟩
  | .local _ .vmem, ⟨0, _⟩ => ⟨S12288x2816, .bf16⟩
  | .local _ .vmem, ⟨1, _⟩ => ⟨S12288x1, .f32⟩
  | .local _ .vmem, ⟨2, _⟩ => ⟨S12288x1, .f32⟩
  | .local _ .vmem, ⟨3, _⟩ => ⟨S30848x2816, .fp8e4m3⟩
  | .local _ .vmem, ⟨4, _⟩ => ⟨S1x30848, .f32⟩
  | .local _ .vmem, ⟨5, _⟩ => ⟨S12288x30848, .bf16⟩
  | .local _ .vmem, ⟨6, _⟩ => ⟨S4x3072x30848, .bf16⟩
  | .local _ .vmem, ⟨7, _⟩ => ⟨S4x3072x2816, .fp8e4m3⟩
  | _, _ => ⟨S4x3072x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_6 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩
abbrev main_v20 : Ref sig .tc := ⟨.hbm, 38, rfl⟩
abbrev main_cst_8 : Ref sig .tc := ⟨.hbm, 39, rfl⟩
abbrev main_v21 : Ref sig .tc := ⟨.hbm, 40, rfl⟩
abbrev main_v22 : Ref sig .tc := ⟨.hbm, 41, rfl⟩
abbrev main_cst_9 : Ref sig .tc := ⟨.hbm, 42, rfl⟩
abbrev main_call2_v0 : Ref sig .tc := ⟨.hbm, 43, rfl⟩
abbrev main_call2_v1 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29_0 : Ref sig .tc := ⟨.hbm, 51, rfl⟩
abbrev main_v29_1 : Ref sig .tc := ⟨.hbm, 52, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S30848x2816 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x30848 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x30848 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x3072x30848 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x3072x2816 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Body.lean ====
/- The kernel's body, run at one grid point.

   The body has two forms. At the first point of a row of blocks it quantises the block of `x`: it stores the fp8
   codes and the column of scales into their staging buffers, and then computes its block of `y` from them. At
   every other point of the row it stores only the block of `y`, from the codes and the scales that the first point
   left in their buffers. -/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Pipeline.TableIdle
public import Idealize.ShloMosaic.Lib.VecWindow
public import Idealize.ShloMosaic.Lib.Tactic

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Cert.KernelIdeal.Gen

variable {F : FTy → Type} [FloatOps F]

local notation "𝕄" => MT nD τ sig Unit (Elt F) ℕ (UR sig nD τ) ℕ

/-- The fp8 codes of a block of `x`, as the body computes them. -/
def codesOf (x : Vec F S1024x2816 .bf16) : Vec F S1024x2816 .fp8e4m3 := k0_pay1 (k0_pay3 x) (k0_pay6 x) 127#32

/-- The column of scales of a block of `x`. -/
def scaleOf (x : Vec F S1024x2816 .bf16) : Vec F S1024x1 .f32 := k0_pay5 x

set_option maxHeartbeats 2000000 in
/-- The body at the first point of a row of blocks. -/
theorem sound_first (c : Dev nD) (E : Set ℕ) (i : grid0.Coords) (hi : k0_cond1 i = 1#1)
    (arg2 : Memref sig .tc .vmem S1024x2816 .bf16) (harg2 : arg2.IsWhole) (arg3 : Memref sig .tc .vmem S1024x2816 .fp8e4m3) (harg3 : arg3.IsWhole)
    (arg4 : Memref sig .tc .vmem S1x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x2816 .fp8e4m3) (harg7 : arg7.IsWhole)
    (arg8 : Memref sig .tc .vmem S1024x1 .f32) (harg8 : arg8.IsWhole)
    (x : Vec F S1024x2816 .bf16) (w : Vec F S1024x2816 .fp8e4m3) (ws : Vec F S1x1024 .f32) (res : Vec F S1024x1024 .bf16)
    (y : Vec F S1024x1024 .bf16) (q : Vec F S1024x2816 .fp8e4m3) (s : Vec F S1024x1 .f32) (K : PUnit → sProp 𝕄) :
    iprop(owns (c : Thread nD τ) arg2 fullShare x ∗ owns (c : Thread nD τ) arg3 fullShare w ∗ owns (c : Thread nD τ) arg4 fullShare ws
        ∗ owns (c : Thread nD τ) arg5 fullShare res ∗ owns (c : Thread nD τ) arg6 fullShare y
        ∗ owns (c : Thread nD τ) arg7 fullShare q ∗ owns (c : Thread nD τ) arg8 fullShare s
        ∗ (iprop(owns (c : Thread nD τ) arg2 fullShare x ∗ owns (c : Thread nD τ) arg3 fullShare w ∗ owns (c : Thread nD τ) arg4 fullShare ws
            ∗ owns (c : Thread nD τ) arg5 fullShare res ∗ owns (c : Thread nD τ) arg6 fullShare (k0_pay2 (codesOf x) w (scaleOf x) ws res)
            ∗ owns (c : Thread nD τ) arg7 fullShare (codesOf x) ∗ owns (c : Thread nD τ) arg8 fullShare (scaleOf x)) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  rw [dif_pos hi]
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, -, H6⟩, ⟨%f7, -, H7⟩, ⟨%f8, -, H8⟩, Hk⟩
  subst hf2 hf3 hf4 hf5
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_full]
    unfold sound_first.sl.v3 sound_first.sl.v7 sound_first.sl.H7_1 sound_first.sl.H8_1
    congr 1
    · exact (View.readCov_full _ _ _ _ _).trans (congrArg codesOf (View.readAt_full _ _ _))
    · exact View.readAt_full _ _ _
    · exact (View.readCov_full _ _ _ _ _).trans (congrArg scaleOf (View.readAt_full _ _ _))
    · exact View.readAt_full _ _ _
    · exact View.readAt_full _ _ _
  isplitl [H7]
  · iexists _; isplitr
    swap; · iexact H7
    ipureintro
    unfold sound_first.sl.H7_1
    exact (View.read_writes_full _ _ _ _ _).trans (congrArg codesOf (View.readAt_full _ _ _))
  iexists _; isplitr
  swap; · iexact H8
  ipureintro
  unfold sound_first.sl.H8_1
  exact (View.read_writes_full _ _ _ _ _).trans (congrArg scaleOf (View.readAt_full _ _ _))

set_option maxHeartbeats 2000000 in
/-- The body at the other points of the row. -/
theorem sound_rest (c : Dev nD) (E : Set ℕ) (i : grid0.Coords) (hi : ¬ k0_cond1 i = 1#1)
    (arg2 : Memref sig .tc .vmem S1024x2816 .bf16) (harg2 : arg2.IsWhole) (arg3 : Memref sig .tc .vmem S1024x2816 .fp8e4m3) (harg3 : arg3.IsWhole)
    (arg4 : Memref sig .tc .vmem S1x1024 .f32) (harg4 : arg4.IsWhole) (arg5 : Memref sig .tc .vmem S1024x1024 .bf16) (harg5 : arg5.IsWhole)
    (arg6 : Memref sig .tc .vmem S1024x1024 .bf16) (harg6 : arg6.IsWhole) (arg7 : Memref sig .tc .vmem S1024x2816 .fp8e4m3) (harg7 : arg7.IsWhole)
    (arg8 : Memref sig .tc .vmem S1024x1 .f32) (harg8 : arg8.IsWhole)
    (x : Vec F S1024x2816 .bf16) (w : Vec F S1024x2816 .fp8e4m3) (ws : Vec F S1x1024 .f32) (res : Vec F S1024x1024 .bf16)
    (y : Vec F S1024x1024 .bf16) (q : Vec F S1024x2816 .fp8e4m3) (s : Vec F S1024x1 .f32) (K : PUnit → sProp 𝕄) :
    iprop(owns (c : Thread nD τ) arg2 fullShare x ∗ owns (c : Thread nD τ) arg3 fullShare w ∗ owns (c : Thread nD τ) arg4 fullShare ws
        ∗ owns (c : Thread nD τ) arg5 fullShare res ∗ owns (c : Thread nD τ) arg6 fullShare y
        ∗ owns (c : Thread nD τ) arg7 fullShare q ∗ owns (c : Thread nD τ) arg8 fullShare s
        ∗ (iprop(owns (c : Thread nD τ) arg2 fullShare x ∗ owns (c : Thread nD τ) arg3 fullShare w ∗ owns (c : Thread nD τ) arg4 fullShare ws
            ∗ owns (c : Thread nD τ) arg5 fullShare res ∗ owns (c : Thread nD τ) arg6 fullShare (k0_pay2 q w s ws res)
            ∗ owns (c : Thread nD τ) arg7 fullShare q ∗ owns (c : Thread nD τ) arg8 fullShare s) -∗ K ⟨⟩))
      ⊢ wp frame (wpE (defs₀ (F := F)) Variants.none c none) E
          (cc0__body i arg2 harg2 arg3 harg3 arg4 harg4 arg5 harg5 arg6 harg6 arg7 harg7 arg8 harg8) K := by
  simp only [cc0__body_eq_skeleton]; unfold cc0__body_skel
  rw [dif_neg hi]
  unfold owns
  iintro ⟨⟨%f2, %hf2, H2⟩, ⟨%f3, %hf3, H3⟩, ⟨%f4, %hf4, H4⟩, ⟨%f5, %hf5, H5⟩, ⟨%f6, -, H6⟩, ⟨%f7, %hf7, H7⟩, ⟨%f8, %hf8, H8⟩, Hk⟩
  subst hf2 hf3 hf4 hf5 hf7 hf8
  sl_exec
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [View.read_writes_full]
    congr 1 <;> exact View.readAt_full _ _ _
  isplitl [H7]
  · iexists f7; isplitr; · ipureintro; rfl
    iexact H7
  iexists f8; isplitr; · ipureintro; rfl
  iexact H8

end Cert.KernelIdeal.Hand

end
-- ==== Proof.Region.lean ====
/- The pallas_call's region: what each staging buffer holds at each grid point.

   The grid has 12 × 31 points; point `t` works on the rows of block `t / 31` and on the columns of block `t % 31`.
   The codes and the scales of a row of blocks are computed once, at its first point, and stay in their buffers until
   its last point writes them back.

   The last block of columns overhangs its array: only 128 of its 1024 columns exist. What lies in the staging buffers
   past the end of the array is not known, so the block of `y` is only stated on the columns that exist. There are two
   statements of the body's obligation: one says nothing about `y` at all (enough for the arguments to be unchanged, at
   any floats); the other says what `y` is, and asks that the existing columns do not depend on the rest. -/
module

public import proofs.«01_k».proof.Proof.Body

@[expose] public section

set_option maxRecDepth 65536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The schedule -/

/-- The first point of the row of blocks that point `t` is in. -/
def rowStart (t : Fin cfg0.N) : Fin cfg0.N := ⟨31 * (t.val / 31), lt_of_le_of_lt (Nat.mul_div_le _ _) t.isLt⟩

theorem rowStart_first (t : Fin cfg0.N) (h : t.val % 31 = 0) : rowStart t = t :=
  Fin.ext (by show 31 * (t.val / 31) = t.val; omega)

theorem rowStart_pred (t : Fin cfg0.N) (h : t.val % 31 ≠ 0) (hlt : t.val - 1 < cfg0.N) : rowStart ⟨t.val - 1, hlt⟩ = rowStart t :=
  Fin.ext (by show 31 * ((t.val - 1) / 31) = 31 * (t.val / 31); omega)

/-- The body quantises at the first point of each row of blocks. -/
theorem cond_iff : ∀ t : Fin cfg0.N, k0_cond1 (cfg0.grid.coords t) = 1#1 ↔ t.val % 31 = 0 := by
  decide +kernel

theorem idle5_iff (t : Fin cfg0.N) : cfg0.idle 5 (cfg0.grid.coords t) = !(decide (t.val % 31 = 0)) := by
  show (!(k0_cond1 (cfg0.grid.coords t) == 1#1)) = _
  have := cond_iff t
  by_cases h : t.val % 31 = 0 <;> simp_all

theorem idle6_iff (t : Fin cfg0.N) : cfg0.idle 6 (cfg0.grid.coords t) = !(decide (t.val % 31 = 0)) := idle5_iff t

/-! ## The proof data -/

/-- The codes of the row of blocks that point `t` is in, -/
def codesRow (c : Dev nD) (t : Fin cfg0.N) : Vec F S1024x2816 .fp8e4m3 := codesOf (iblk m c 0 (rowStart t))
/-- and its scales. -/
def scaleRow (c : Dev nD) (t : Fin cfg0.N) : Vec F S1024x1 .f32 := scaleOf (iblk m c 0 (rowStart t))

/-- The blocks of the other inputs, filled out past the end of their arrays with zeros. -/
def wFill (c : Dev nD) (t : Fin cfg0.N) : Vec F S1024x2816 .fp8e4m3 :=
  win0_1.fill (grid0.coords t) (fun _ => Scalar.ofBits .fp8e4m3 0#8) (iblk m c 1 t)
def wsFill (c : Dev nD) (t : Fin cfg0.N) : Vec F S1x1024 .f32 :=
  win0_2.fill (grid0.coords t) (fun _ => Scalar.ofBits .f32 0#32) (iblk m c 2 t)
def resFill (c : Dev nD) (t : Fin cfg0.N) : Vec F S1024x1024 .bf16 :=
  win0_3.fill (grid0.coords t) (fun _ => Scalar.ofBits .bf16 0#16) (iblk m c 3 t)

/-- The block of `y` at point `t`. -/
def yBlk (c : Dev nD) (t : Fin cfg0.N) : Vec F S1024x1024 .bf16 :=
  k0_pay2 (codesRow m c t) (wFill m c t) (scaleRow m c t) (wsFill m c t) (resFill m c t)

/-- What every staging buffer holds after the body at each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => wFill m c t
    | ⟨2, _⟩ => wsFill m c t
    | ⟨3, _⟩ => resFill m c t
    | ⟨4, _⟩ => yBlk m c t
    | ⟨5, _⟩ => codesRow m c t
    | ⟨6, _⟩ => scaleRow m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = wFill m c t := by dsimp only [dats]
theorem after_2 (c : Dev nD) (t : Fin cfg0.N) : (dats m 0 c).after 2 t = wsFill m c t := by dsimp only [dats]
theorem after_3 (c : Dev nD) (t : Fin cfg0.N) : (dats m 0 c).after 3 t = resFill m c t := by dsimp only [dats]
theorem after_4 (c : Dev nD) (t : Fin cfg0.N) : (dats m 0 c).after 4 t = yBlk m c t := by dsimp only [dats]
theorem after_5 (c : Dev nD) (t : Fin cfg0.N) : (dats m 0 c).after 5 t = codesRow m c t := by dsimp only [dats]
theorem after_6 (c : Dev nD) (t : Fin cfg0.N) : (dats m 0 c).after 6 t = scaleRow m c t := by dsimp only [dats]

/-! ## What the body finds -/

theorem before_0 (c : Dev nD) (t : Fin cfg0.N) (d) : (dats m 0 c).before 0 t d = iblk m c 0 t :=
  before0_0_of m (dats m 0 c) (A_eq m c 0) (after_0 m c) t d

theorem before_1 (c : Dev nD) (t : Fin cfg0.N) (d) : (dats m 0 c).before 1 t d = win0_1.fill (grid0.coords t) d (iblk m c 1 t) := by
  unfold Dat.before; rw [if_pos (fetch0_1 t)]
  unfold Dat.fetched Dat.blockOf iblk; rw [A_eq]
theorem before_2 (c : Dev nD) (t : Fin cfg0.N) (d) : (dats m 0 c).before 2 t d = win0_2.fill (grid0.coords t) d (iblk m c 2 t) := by
  unfold Dat.before; rw [if_pos (fetch0_2 t)]
  unfold Dat.fetched Dat.blockOf iblk; rw [A_eq]
theorem before_3 (c : Dev nD) (t : Fin cfg0.N) (d) : (dats m 0 c).before 3 t d = win0_3.fill (grid0.coords t) d (iblk m c 3 t) := by
  unfold Dat.before; rw [if_pos (fetch0_3 t)]
  unfold Dat.fetched Dat.blockOf iblk; rw [A_eq]

/-- The buffer of the codes holds nothing known exactly at the first point of a row of blocks. -/
theorem fresh_5 (n : ℕ) (hn : n ≤ cfg0.N) : cfg0.fresh 5 n = decide (n % 31 = 0) :=
  Cfg.fresh_tab cfg0 5 (fun n => decide (n % 31 = 0)) rfl (fun t => by
    have hf := flush0_5 t
    rw [idle5_iff]
    have h1 : (cfg0.win 5).flush t = decide (t.val % 31 = 30) := by
      by_cases h : t.val % 31 = 30
      · rw [hf.mpr h, decide_eq_true h]
      · rw [decide_eq_false h]; exact Bool.eq_false_iff.mpr (fun e => h (hf.mp e))
    rw [h1, Bool.not_and_self, Bool.or_false]
    exact decide_eq_decide.mpr (by omega)) n hn

theorem fresh_6 (n : ℕ) (hn : n ≤ cfg0.N) : cfg0.fresh 6 n = decide (n % 31 = 0) :=
  Cfg.fresh_tab cfg0 6 (fun n => decide (n % 31 = 0)) rfl (fun t => by
    have hf := flush0_6 t
    rw [idle6_iff]
    have h1 : (cfg0.win 6).flush t = decide (t.val % 31 = 30) := by
      by_cases h : t.val % 31 = 30
      · rw [hf.mpr h, decide_eq_true h]
      · rw [decide_eq_false h]; exact Bool.eq_false_iff.mpr (fun e => h (hf.mp e))
    rw [h1, Bool.not_and_self, Bool.or_false]
    exact decide_eq_decide.mpr (by omega)) n hn

/-- At the other points of the row of blocks the body finds the codes -/
theorem before_5 (c : Dev nD) (t : Fin cfg0.N) (h : t.val % 31 ≠ 0) (d) : (dats m 0 c).before 5 t d = codesRow m c t := by
  have hlt : t.val - 1 < cfg0.N := by omega
  rw [(dats m 0 c).before_out_traj 5 rfl (fun _ _ => rfl) (fun t ht hi hfr => by
      rw [fresh_5 _ (le_of_lt t.isLt), decide_eq_false_iff_not] at hfr
      rw [after_5, after_5]; unfold codesRow; rw [rowStart_pred t hfr]) t.val t rfl d,
    fresh_5 _ (le_of_lt t.isLt), decide_eq_false h, if_neg Bool.false_ne_true, after_5]
  unfold codesRow; rw [rowStart_pred t h]

/-- and the scales that its first point left. -/
theorem before_6 (c : Dev nD) (t : Fin cfg0.N) (h : t.val % 31 ≠ 0) (d) : (dats m 0 c).before 6 t d = scaleRow m c t := by
  have hlt : t.val - 1 < cfg0.N := by omega
  rw [(dats m 0 c).before_out_traj 6 rfl (fun _ _ => rfl) (fun t ht hi hfr => by
      rw [fresh_6 _ (le_of_lt t.isLt), decide_eq_false_iff_not] at hfr
      rw [after_6, after_6]; unfold scaleRow; rw [rowStart_pred t hfr]) t.val t rfl d,
    fresh_6 _ (le_of_lt t.isLt), decide_eq_false h, if_neg Bool.false_ne_true, after_6]
  unfold scaleRow; rw [rowStart_pred t h]

/-! ## The body at a point -/

/-- The body at point `t`, whatever the buffers of the clipped inputs hold. -/
theorem sound_point (c : Dev nD) (t : Fin cfg0.N) (w : Vec F S1024x2816 .fp8e4m3) (ws : Vec F S1x1024 .f32)
    (res y : Vec F S1024x1024 .bf16) (q : Vec F S1024x2816 .fp8e4m3) (s : Vec F S1024x1 .f32)
    (hq : t.val % 31 ≠ 0 → q = codesRow m c t) (hs : t.val % 31 ≠ 0 → s = scaleRow m c t) (K : PUnit → sProp 𝕄) :
    iprop(owns (c : Thread nD τ) (st0_0 t) fullShare (iblk m c 0 t) ∗ owns (c : Thread nD τ) (st0_1 t) fullShare w
        ∗ owns (c : Thread nD τ) (st0_2 t) fullShare ws ∗ owns (c : Thread nD τ) (st0_3 t) fullShare res
        ∗ owns (c : Thread nD τ) (st0_4 t) fullShare y
        ∗ owns (c : Thread nD τ) (st0_5 t) fullShare q ∗ owns (c : Thread nD τ) (st0_6 t) fullShare s
        ∗ (iprop(owns (c : Thread nD τ) (st0_0 t) fullShare (iblk m c 0 t) ∗ owns (c : Thread nD τ) (st0_1 t) fullShare w
            ∗ owns (c : Thread nD τ) (st0_2 t) fullShare ws ∗ owns (c : Thread nD τ) (st0_3 t) fullShare res
            ∗ owns (c : Thread nD τ) (st0_4 t) fullShare (k0_pay2 (codesRow m c t) w (scaleRow m c t) ws res)
            ∗ owns (c : Thread nD τ) (st0_5 t) fullShare (codesRow m c t)
            ∗ owns (c : Thread nD τ) (st0_6 t) fullShare (scaleRow m c t)) -∗ K ⟨⟩))
      ⊢ wp frame (wpE (defs₀ (F := F)) Variants.none c none) Set.univ (bodyAt0 t) K := by
  by_cases h : t.val % 31 = 0
  · have e1 : codesRow m c t = codesOf (iblk m c 0 t) := by unfold codesRow; rw [rowStart_first t h]
    have e2 : scaleRow m c t = scaleOf (iblk m c 0 t) := by unfold scaleRow; rw [rowStart_first t h]
    rw [e1, e2]
    exact sound_first c Set.univ (grid0.coords t) ((cond_iff t).mpr h) _ _ _ _ _ _ _ _ _ _ _ _ _ _ (iblk m c 0 t) w ws res y q s K
  · rw [← hq h, ← hs h]
    exact sound_rest c Set.univ (grid0.coords t) (fun e => h ((cond_iff t).mp e)) _ _ _ _ _ _ _ _ _ _ _ _ _ _ (iblk m c 0 t) w ws res y q s K

/-- The pipeline's call of the body at point `t`. -/
theorem defs₀_row (t : Fin cfg0.N) :
    (defs₀ (F := F)) .tc cfg0.body (cfg0.bodyArgs t (cfg0.slots t)) = bodyAt0 t := by
  unfold defs₀; rw [Defs.onTc_tc]

/-- The buffer of the codes, left holding the codes of the row of blocks, is left as the pipeline wants it. -/
theorem leave_5 (c : Dev nD) (t : Fin cfg0.N) :
    owns (c : Thread nD τ) (st0_5 t) fullShare (codesRow m c t) ⊢ (dats m 0 c).leaves 5 t := by
  by_cases h : t.val % 31 = 0
  · unfold Dat.leaves
    rw [idle5_iff, decide_eq_true h]
    rw [← after_5 m c t]; exact .rfl
  · unfold Dat.leaves
    rw [idle5_iff, decide_eq_false h]
    show _ ⊢ (match (cfg0.win 5).flush t with
      | false => iprop(∃ d, owns (c : Thread nD τ) (st0_5 t) fullShare ((dats m 0 c).before 5 t d))
      | true => owns (c : Thread nD τ) (st0_5 t) fullShare ((dats m 0 c).after 5 t) : sProp 𝕄)
    cases (cfg0.win 5).flush t
    · iintro H; iexists codesRow m c t; rw [before_5 m c t h]; iexact H
    · rw [after_5]

/-- The same for the scales. -/
theorem leave_6 (c : Dev nD) (t : Fin cfg0.N) :
    owns (c : Thread nD τ) (st0_6 t) fullShare (scaleRow m c t) ⊢ (dats m 0 c).leaves 6 t := by
  by_cases h : t.val % 31 = 0
  · unfold Dat.leaves
    rw [idle6_iff, decide_eq_true h]
    rw [← after_6 m c t]; exact .rfl
  · unfold Dat.leaves
    rw [idle6_iff, decide_eq_false h]
    show _ ⊢ (match (cfg0.win 6).flush t with
      | false => iprop(∃ d, owns (c : Thread nD τ) (st0_6 t) fullShare ((dats m 0 c).before 6 t d))
      | true => owns (c : Thread nD τ) (st0_6 t) fullShare ((dats m 0 c).after 6 t) : sProp 𝕄)
    cases (cfg0.win 6).flush t
    · iintro H; iexists scaleRow m c t; rw [before_6 m c t h]; iexact H
    · rw [after_6]

/-- The pipeline is told nothing about the block of `y`. -/
abbrev forgetY : Fin cfg0.W → Bool := fun w => decide (w = 4)

set_option maxHeartbeats 800000 in
/-- The body's obligation, saying nothing about `y`. -/
theorem obligation_forget (c : Dev nD) : BodyObligationLoose (dats m 0 c) (defs₀ (F := F)) Variants.none () Set.univ forgetY := fun t => by
  rw [bigSep_W0, bigSep_W0, defs₀_row]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ X, owns (c : Thread nD τ) (st0_4 t) fullShare X)
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := F)) Variants.none c none) Set.univ (bodyAt0 t) fun _ =>
      iprop((dats m 0 c).Φ t.castSucc ∗ (dats m 0 c).owesAt () t.castSucc
      ∗ owns (c : Thread nD τ) (st0_0 t) fullShare ((dats m 0 c).after 0 t)
      ∗ (∃ d, owns (c : Thread nD τ) (st0_1 t) fullShare (win0_1.fill (grid0.coords t) d (win0_1.cut (grid0.coords t) ((dats m 0 c).after 1 t))))
      ∗ (∃ d, owns (c : Thread nD τ) (st0_2 t) fullShare (win0_2.fill (grid0.coords t) d (win0_2.cut (grid0.coords t) ((dats m 0 c).after 2 t))))
      ∗ (∃ d, owns (c : Thread nD τ) (st0_3 t) fullShare (win0_3.fill (grid0.coords t) d (win0_3.cut (grid0.coords t) ((dats m 0 c).after 3 t))))
      ∗ (∃ X, owns (c : Thread nD τ) (st0_4 t) fullShare X)
      ∗ (dats m 0 c).leaves 5 t ∗ (dats m 0 c).leaves 6 t)
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3]
  iapply (sound_point m c t _ _ _ d4 _ _ (fun h => before_5 m c t h d5) (fun h => before_6 m c t h d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · rw [after_0]; iexact H0
  isplitl [H1]
  · iexists d1; rw [after_1]; unfold wFill; rw [Window.cut_fill]; iexact H1
  isplitl [H2]
  · iexists d2; rw [after_2]; unfold wsFill; rw [Window.cut_fill]; iexact H2
  isplitl [H3]
  · iexists d3; rw [after_3]; unfold resFill; rw [Window.cut_fill]; iexact H3
  isplitl [H4]; · iexists _; iexact H4
  isplitl [H5]
  · iapply (leave_5 m c t); iexact H5
  iapply (leave_6 m c t); iexact H6

/-- The existing part of a block of `y` does not depend on what lies past the end of the inputs' arrays. -/
def Local : Prop := ∀ (c : Dev nD) (t : Fin cfg0.N) (d1 : Vec F S1024x2816 .fp8e4m3) (d2 : Vec F S1x1024 .f32) (d3 : Vec F S1024x1024 .bf16),
  win0_4.cut (grid0.coords t) (k0_pay2 (codesRow m c t) (win0_1.fill (grid0.coords t) d1 (iblk m c 1 t)) (scaleRow m c t)
      (win0_2.fill (grid0.coords t) d2 (iblk m c 2 t)) (win0_3.fill (grid0.coords t) d3 (iblk m c 3 t)))
    = win0_4.cut (grid0.coords t) (yBlk m c t)

set_option maxHeartbeats 800000 in
/-- The body's obligation, with `y` stated where it exists. -/
theorem obligation (hloc : Local m) (c : Dev nD) : BodyObligationLoose (dats m 0 c) (defs₀ (F := F)) Variants.none () Set.univ := fun t => by
  rw [bigSep_W0, bigSep_W0, defs₀_row]
  show iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d)))
    ⊢ wp frame (wpE (defs₀ (F := F)) Variants.none c none) Set.univ (bodyAt0 t) fun _ =>
      iprop((dats m 0 c).Φ t.castSucc ∗ (dats m 0 c).owesAt () t.castSucc
      ∗ owns (c : Thread nD τ) (st0_0 t) fullShare ((dats m 0 c).after 0 t)
      ∗ (∃ d, owns (c : Thread nD τ) (st0_1 t) fullShare (win0_1.fill (grid0.coords t) d (win0_1.cut (grid0.coords t) ((dats m 0 c).after 1 t))))
      ∗ (∃ d, owns (c : Thread nD τ) (st0_2 t) fullShare (win0_2.fill (grid0.coords t) d (win0_2.cut (grid0.coords t) ((dats m 0 c).after 2 t))))
      ∗ (∃ d, owns (c : Thread nD τ) (st0_3 t) fullShare (win0_3.fill (grid0.coords t) d (win0_3.cut (grid0.coords t) ((dats m 0 c).after 3 t))))
      ∗ (∃ d, owns (c : Thread nD τ) (st0_4 t) fullShare (win0_4.fill (grid0.coords t) d (win0_4.cut (grid0.coords t) ((dats m 0 c).after 4 t))))
      ∗ (dats m 0 c).leaves 5 t ∗ (dats m 0 c).leaves 6 t)
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m c t d0, before_1 m c t d1, before_2 m c t d2, before_3 m c t d3]
  iapply (sound_point m c t _ _ _ _ _ _ (fun h => before_5 m c t h d5) (fun h => before_6 m c t h d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · rw [after_0]; iexact H0
  isplitl [H1]
  · iexists d1; rw [after_1]; unfold wFill; rw [Window.cut_fill]; iexact H1
  isplitl [H2]
  · iexists d2; rw [after_2]; unfold wsFill; rw [Window.cut_fill]; iexact H2
  isplitl [H3]
  · iexists d3; rw [after_3]; unfold resFill; rw [Window.cut_fill]; iexact H3
  isplitl [H4]
  · iexists (k0_pay2 (codesRow m c t) (win0_1.fill (grid0.coords t) d1 (iblk m c 1 t)) (scaleRow m c t)
      (win0_2.fill (grid0.coords t) d2 (iblk m c 2 t)) (win0_3.fill (grid0.coords t) d3 (iblk m c 3 t)))
    rw [after_4, win0_4.fill_congr_cut _ (hloc c t d1 d2 d3)]; iexact H4
  isplitl [H5]
  · iapply (leave_5 m c t); iexact H5
  iapply (leave_6 m c t); iexact H6

/-! ## The runs -/

/-- The buffers that the lines after the region write. -/
def tail : Finset (Ref sig .tc) := {main_v4, main_v5, main_v6}

theorem tail_writes : ∀ ops ∈ ([hostOps1] : List (List (HloOp τ sig (Elt F)))), ∀ op ∈ ops, ∀ b : Ref sig .tc,
    Proc.devRef .tc b ∈ op.writes → b ∈ tail := by
  intro ops hops op hop b hb
  simp only [List.mem_cons, List.mem_nil_iff, or_false] at hops
  rcases hops with rfl
  simp only [hostOps1, List.mem_cons, List.mem_nil_iff, or_false] at hop
  rcases hop with rfl | rfl | rfl <;>
  · simp only [StableHlo.reshape_writes, Finset.mem_singleton] at hb
    unfold tail
    simp only [Finset.mem_insert, Finset.mem_singleton]
    by_contra hne
    push Not at hne
    obtain ⟨h4, h5, h6⟩ := hne
    first
      | exact StableHlo.devRef_ne_of_ne h4 hb
      | exact StableHlo.devRef_ne_of_ne h5 hb
      | exact StableHlo.devRef_ne_of_ne h6 hb

set_option backward.isDefEq.respectTransparency.types false in
set_option maxHeartbeats 800000 in
/-- At any floats: every fair execution ends, with the arguments unchanged and every semaphore at zero. -/
theorem quiescent_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  Pipeline.θ_run_frame_around_T_forget cfgs (dats m) (0 : Fin 1) launch0 defs₀ Variants.none forgetY tail m ρ main
    (hbody := obligation_forget m)
    (hshare := fun c => (dats m 0 c).share_full fun _ => rfl) (howed := fun _ _ => rfl)
    (V₀ := V0 m) (opss := [hostOps1]) (hsub := sfx_sub) (hfresh := sfx_fresh) (hkeep := sfx_keeps) (hT := tail_writes)
    (hmain := hmain m Variants.none) (hA := A_eq m) (hΦ := fun _ _ => rfl) (Q' := _)
    (hQ' := fun r h => ⟨fun c => ⟨
      ((h.1 c).2 main_arg0 (Finset.mem_sdiff.mpr ⟨Pipeline.mem_restRefs_of main_arg0 (by decide) (by decide), by decide⟩)).trans (V_main_arg0 m c),
      (Pipeline.RDat.FramePostR.arr_in h.1 c 1 rfl).trans ((A_eq m c 1).trans (V_main_arg1 m c)),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩)

set_option backward.isDefEq.respectTransparency.types false in
set_option maxHeartbeats 800000 in
/-- Where the existing part of `y` is determined: the run, with every array at its contents. -/
theorem run_main (hloc : Local m) : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := obligation m hloc)
    (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl)

end Cert.KernelIdeal.Hand

end
-- ==== Proof.FrameBits.lean ====
/- The kernel as printed and the kernel that is read over the reals are printed from one text, and no operation was
   rewritten: they are the same program. What holds of it at any floats therefore holds of the printed kernel, bit
   for bit. The two body tables differ only in how their cases are compiled, so they are compared case by case. -/
module

public import proofs.«01_k».proof.Defs
public import proofs.«01_k».proof.Proof.Region
public import proofs.«01_k».proof.Proof.Gen.Kernel

@[expose] public section
set_option maxRecDepth 65536
set_option backward.isDefEq.respectTransparency.types false
set_option backward.isDefEq.respectTransparency false
noncomputable section
namespace Cert.Proof
open Idealize.ShloMosaic Idealize.SL.Sem

/-- The one row of the two body tables. -/
theorem row0 (a) : Cert.Kernel.defs₀ (F := Bits) .tc 0 a = Cert.KernelIdeal.defs₀ (F := Bits) .tc 0 a := by
  obtain ⟨t, s⟩ := a
  exact congrFun (congrFun (congrFun (congrFun (congrFun (congrFun (congrFun (congrFun (congrFun (congrFun (congrFun (congrFun (congrFun (congrFun (congrFun
    (show Cert.Kernel.cc0__body (F := Bits) = Cert.KernelIdeal.cc0__body (F := Bits) from rfl) _) _) _) _) _) _) _) _) _) _) _) _) _) _) _

/-- The two body tables. -/
theorem defs₀_eq : Cert.Kernel.defs₀ (F := Bits) = Cert.KernelIdeal.defs₀ (F := Bits) := by
  show Defs.onTc _ = Defs.onTc _
  refine congrArg Defs.onTc ?_
  funext l a
  match l, a with
  | 0, a => exact row0 a

set_option maxHeartbeats 4000000 in
/-- The frame of the printed kernel. -/
theorem quiescent_Kernel : Cert.quiescent_Kernel (hKernel := Cert.Kernel.Gen.facts) := by
  intro m g _
  have h := Cert.KernelIdeal.Hand.quiescent_any (F := Bits) m g
  rw [show Cert.Kernel.defs (F := Bits) = Pipeline.defs Cert.KernelIdeal.pcfgs (Cert.Kernel.defs₀ (F := Bits)) from rfl, defs₀_eq]
  exact h
end Cert.Proof

end
-- ==== Proof.Blocks.lean ====
/- Where the blocks lie: row block `t / 31`, column block `t % 31`, and how much of each exists. -/
module

public import proofs.«01_k».proof.Proof.Region
public import Idealize.ShloMosaic.Lib.Pointwise

@[expose] public section

set_option maxRecDepth 65536

noncomputable section

namespace Cert.KernelIdeal.Hand

open Idealize.ShloMosaic Idealize.ShloMosaic.TcCoe
open Idealize.SL Idealize.SL.Sem
open Idealize.ShloMosaic.Pipeline (Dat Cfg Window)
open Cert.KernelIdeal.Gen

variable {F : FTy → Type} [FloatOps F]

variable (m : (ℓ : Loc nD τ sig) → Buf (Elt F) ℓ)

/-! ## The blocks' indices and sizes, at every point -/

theorem index_0 : ∀ t : Fin grid0.N, win0_0.index t 0 = t.val / 31 ∧ win0_0.index t 1 = 0 := by decide +kernel
theorem index_1 : ∀ t : Fin grid0.N, win0_1.index t 0 = t.val % 31 ∧ win0_1.index t 1 = 0 := by decide +kernel
theorem index_2 : ∀ t : Fin grid0.N, win0_2.index t 0 = 0 ∧ win0_2.index t 1 = t.val % 31 := by decide +kernel
theorem index_3 : ∀ t : Fin grid0.N, win0_3.index t 0 = t.val / 31 ∧ win0_3.index t 1 = t.val % 31 := by decide +kernel
theorem index_4 : ∀ t : Fin grid0.N, win0_4.index t 0 = t.val / 31 ∧ win0_4.index t 1 = t.val % 31 := by decide +kernel
theorem index_5 : ∀ t : Fin grid0.N, win0_5.index t 0 = t.val / 31 ∧ win0_5.index t 1 = 0 := by decide +kernel
theorem index_6 : ∀ t : Fin grid0.N, win0_6.index t 0 = t.val / 31 ∧ win0_6.index t 1 = 0 := by decide +kernel

/-- The columns of `y` that exist in column block `j`. -/
abbrev width (t : Fin grid0.N) : ℕ := min 1024 (30848 - 1024 * (t.val % 31))

theorem size_1 : ∀ t : Fin grid0.N, win0_1.xsize (grid0.coords t) 0 = width t ∧ win0_1.xsize (grid0.coords t) 1 = 2816 := by decide +kernel
theorem size_2 : ∀ t : Fin grid0.N, win0_2.xsize (grid0.coords t) 0 = 1 ∧ win0_2.xsize (grid0.coords t) 1 = width t := by decide +kernel
theorem size_3 : ∀ t : Fin grid0.N, win0_3.xsize (grid0.coords t) 0 = 1024 ∧ win0_3.xsize (grid0.coords t) 1 = width t := by decide +kernel
theorem size_4 : ∀ t : Fin grid0.N, win0_4.xsize (grid0.coords t) 0 = 1024 ∧ win0_4.xsize (grid0.coords t) 1 = width t := by decide +kernel

/-! ## A block read at an index is its array read there -/

theorem read_0 (t : Fin cfg0.N) (A : Vec F S12288x2816 .bf16) (j : ((cfg0.win 0).xblock (grid0.coords t)).Idx) (i : S12288x2816.Idx)
    (h0 : (i 0).val = 1024 * (t.val / 31) + (j 0).val) (h1 : (i 1).val = (j 1).val) :
    ((cfg0.win 0).blk t).view.read (Elt F) A j = A i := by
  refine congrArg A (funext fun a => Fin.ext ?_)
  have hi := index_0 t
  match a with
  | ⟨0, _⟩ => show win0_0.index t 0 * 1024 + 1 * (j 0).val = (i 0).val; rw [h0, hi.1]; omega
  | ⟨1, _⟩ => show win0_0.index t 1 * 2816 + 1 * (j 1).val = (i 1).val; rw [h1, hi.2]; omega

theorem read_1 (t : Fin cfg0.N) (A : Vec F S30848x2816 .fp8e4m3) (j : ((cfg0.win 1).xblock (grid0.coords t)).Idx) (i : S30848x2816.Idx)
    (h0 : (i 0).val = 1024 * (t.val % 31) + (j 0).val) (h1 : (i 1).val = (j 1).val) :
    ((cfg0.win 1).blk t).view.read (Elt F) A j = A i := by
  refine congrArg A (funext fun a => Fin.ext ?_)
  have hi := index_1 t
  match a with
  | ⟨0, _⟩ => show win0_1.index t 0 * 1024 + 1 * (j 0).val = (i 0).val; rw [h0, hi.1]; omega
  | ⟨1, _⟩ => show win0_1.index t 1 * 2816 + 1 * (j 1).val = (i 1).val; rw [h1, hi.2]; omega

theorem read_2 (t : Fin cfg0.N) (A : Vec F S1x30848 .f32) (j : ((cfg0.win 2).xblock (grid0.coords t)).Idx) (i : S1x30848.Idx)
    (h0 : (i 0).val = (j 0).val) (h1 : (i 1).val = 1024 * (t.val % 31) + (j 1).val) :
    ((cfg0.win 2).blk t).view.read (Elt F) A j = A i := by
  refine congrArg A (funext fun a => Fin.ext ?_)
  have hi := index_2 t
  match a with
  | ⟨0, _⟩ => show win0_2.index t 0 * 1 + 1 * (j 0).val = (i 0).val; rw [h0, hi.1]; omega
  | ⟨1, _⟩ => show win0_2.index t 1 * 1024 + 1 * (j 1).val = (i 1).val; rw [h1, hi.2]; omega

theorem read_3 (t : Fin cfg0.N) (A : Vec F S12288x30848 .bf16) (j : ((cfg0.win 3).xblock (grid0.coords t)).Idx) (i : S12288x30848.Idx)
    (h0 : (i 0).val = 1024 * (t.val / 31) + (j 0).val) (h1 : (i 1).val = 1024 * (t.val % 31) + (j 1).val) :
    ((cfg0.win 3).blk t).view.read (Elt F) A j = A i := by
  refine congrArg A (funext fun a => Fin.ext ?_)
  have hi := index_3 t
  match a with
  | ⟨0, _⟩ => show win0_3.index t 0 * 1024 + 1 * (j 0).val = (i 0).val; rw [h0, hi.1]; omega
  | ⟨1, _⟩ => show win0_3.index t 1 * 1024 + 1 * (j 1).val = (i 1).val; rw [h1, hi.2]; omega

theorem read_4 (t : Fin cfg0.N) (A : Vec F S12288x30848 .bf16) (j : ((cfg0.win 4).xblock (grid0.coords t)).Idx) (i : S12288x30848.Idx)
    (h0 : (i 0).val = 1024 * (t.val / 31) + (j 0).val) (h1 : (i 1).val = 1024 * (t.val % 31) + (j 1).val) :
    ((cfg0.win 4).blk t).view.read (Elt F) A j = A i := by
  refine congrArg A (funext fun a => Fin.ext ?_)
  have hi := index_4 t
  match a with
  | ⟨0, _⟩ => show win0_4.index t 0 * 1024 + 1 * (j 0).val = (i 0).val; rw [h0, hi.1]; omega
  | ⟨1, _⟩ => show win0_4.index t 1 * 1024 + 1 * (j 1).val = (i 1).val; rw [h1, hi.2]; omega

theorem read_5 (t : Fin cfg0.N) (A : Vec F S12288x2816 .fp8e4m3) (j : ((cfg0.win 5).xblock (grid0.coords t)).Idx) (i : S12288x2816.Idx)
    (h0 : (i 0).val = 1024 * (t.val / 31) + (j 0).val) (h1 : (i 1).val = (j 1).val) :
    ((cfg0.win 5).blk t).view.read (Elt F) A j = A i := by
  refine congrArg A (funext fun a => Fin.ext ?_)
  have hi := index_5 t
  match a with
  | ⟨0, _⟩ => show win0_5.index t 0 * 1024 + 1 * (j 0).val = (i 0).val; rw [h0, hi.1]; omega
  | ⟨1, _⟩ => show win0_5.index t 1 * 2816 + 1 * (j 1).val = (i 1).val; rw [h1, hi.2]; omega

theorem read_6 (t : Fin cfg0.N) (A : Vec F S12288x1 .f32) (j : ((cfg0.win 6).xblock (grid0.coords t)).Idx) (i : S12288x1.Idx)
    (h0 : (i 0).val = 1024 * (t.val / 31) + (j 0).val) (h1 : (i 1).val = (j 1).val) :
    ((cfg0.win 6).blk t).view.read (Elt F) A j = A i := by
  refine congrArg A (funext fun a => Fin.ext ?_)
  have hi := index_6 t
  match a with
  | ⟨0, _⟩ => show win0_6.index t 0 * 1024 + 1 * (j 0).val = (i 0).val; rw [h0, hi.1]; omega
  | ⟨1, _⟩ => show win0_6.index t 1 * 1 + 1 * (j 1).val = (i 1).val; rw [h1, hi.2]; omega

/-! ## What the body finds, in terms of the arrays -/

/-- The arrays the region reads, by their types. -/
def xArr (c : Dev nD) : Vec F S12288x2816 .bf16 := V m c main_v0
def wArr (c : Dev nD) : Vec F S30848x2816 .fp8e4m3 := V m c main_arg1
def wsArr (c : Dev nD) : Vec F S1x30848 .f32 := V m c main_v1
def resArr (c : Dev nD) : Vec F S12288x30848 .bf16 := V m c main_v2

/-- The rows of a point's row block -/
theorem row_lt (t : Fin cfg0.N) (p : Fin 1024) : 1024 * (t.val / 31) + p.val < 12288 := by
  have ht : t.val < 372 := t.isLt
  omega

def row (t : Fin cfg0.N) (p : Fin 1024) : Fin 12288 := ⟨1024 * (t.val / 31) + p.val, row_lt t p⟩

theorem row_rowStart (t : Fin cfg0.N) (p : Fin 1024) : row (rowStart t) p = row t p :=
  Fin.ext (by show 1024 * ((31 * (t.val / 31)) / 31) + p.val = 1024 * (t.val / 31) + p.val; omega)

theorem x_at (c : Dev nD) (t : Fin cfg0.N) (p : Fin 1024) (k : Fin 2816) :
    iblk m c 0 t (ix2 p k) = xArr m c (ix2 (row t p) k) := by
  unfold iblk
  exact read_0 t (V m c main_v0) (ix2 p k) (ix2 (row t p) k) rfl rfl

theorem fill_1 (c : Dev nD) (t : Fin cfg0.N) (d) (n : Fin 1024) (k : Fin 2816) (hn : 1024 * (t.val % 31) + n.val < 30848) :
    win0_1.fill (grid0.coords t) d (iblk m c 1 t) (ix2 n k) = wArr m c (ix2 ⟨1024 * (t.val % 31) + n.val, hn⟩ k) := by
  have hm : win0_1.moved (grid0.coords t) (ix2 n k) = true := (win0_1.moved_iff _ _).mpr fun a => by
    have hs := size_1 t
    match a with
    | ⟨0, _⟩ => show n.val < win0_1.xsize (grid0.coords t) 0; rw [hs.1]; have := n.isLt; unfold width; omega
    | ⟨1, _⟩ => show k.val < win0_1.xsize (grid0.coords t) 1; rw [hs.2]; exact k.isLt
  unfold Window.fill
  rw [dif_pos hm]
  unfold iblk
  exact read_1 t (V m c main_arg1) _ (ix2 ⟨1024 * (t.val % 31) + n.val, hn⟩ k) rfl rfl

theorem fill_2 (c : Dev nD) (t : Fin cfg0.N) (d) (n : Fin 1024) (hn : 1024 * (t.val % 31) + n.val < 30848) :
    win0_2.fill (grid0.coords t) d (iblk m c 2 t) (ix2 0 n) = wsArr m c (ix2 0 ⟨1024 * (t.val % 31) + n.val, hn⟩) := by
  have hm : win0_2.moved (grid0.coords t) (ix2 0 n) = true := (win0_2.moved_iff _ _).mpr fun a => by
    have hs := size_2 t
    match a with
    | ⟨0, _⟩ => show 0 < win0_2.xsize (grid0.coords t) 0; rw [hs.1]; exact Nat.one_pos
    | ⟨1, _⟩ => show n.val < win0_2.xsize (grid0.coords t) 1; rw [hs.2]; have := n.isLt; unfold width; omega
  unfold Window.fill
  rw [dif_pos hm]
  unfold iblk
  exact read_2 t (V m c main_v1) _ (ix2 0 ⟨1024 * (t.val % 31) + n.val, hn⟩) rfl rfl

theorem fill_3 (c : Dev nD) (t : Fin cfg0.N) (d) (p : Fin 1024) (n : Fin 1024) (hn : 1024 * (t.val % 31) + n.val < 30848) :
    win0_3.fill (grid0.coords t) d (iblk m c 3 t) (ix2 p n) = resArr m c (ix2 (row t p) ⟨1024 * (t.val % 31) + n.val, hn⟩) := by
  have hm : win0_3.moved (grid0.coords t) (ix2 p n) = true := (win0_3.moved_iff _ _).mpr fun a => by
    have hs := size_3 t
    match a with
    | ⟨0, _⟩ => show p.val < win0_3.xsize (grid0.coords t) 0; rw [hs.1]; exact p.isLt
    | ⟨1, _⟩ => show n.val < win0_3.xsize (grid0.coords t) 1; rw [hs.2]; have := n.isLt; unfold width; omega
  unfold Window.fill
  rw [dif_pos hm]
  unfold iblk
  exact read_3 t (V m c main_v2) _ (ix2 (row t p) ⟨1024 * (t.val % 31) + n.val, hn⟩) rfl rfl

/-! ## The output arrays after the run -/

theorem index_inj_4 : ∀ t t' : Fin cfg0.N, win0_4.index t = win0_4.index t' → t = t' := fun t t' h => by
  have h0 := congrFun h 0
  have h1 := congrFun h 1
  rw [(index_4 t).1, (index_4 t').1] at h0
  rw [(index_4 t).2, (index_4 t').2] at h1
  exact Fin.ext (by omega)

theorem disjoint_4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (index_inj_4 t t' h)

theorem disjoint_5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (by
    have h0 : win0_5.index t 0 = win0_5.index t' 0 := congrFun h 0
    rw [(index_5 t).1, (index_5 t').1] at h0
    have e := (flush0_5 t).mp hf
    have e' := (flush0_5 t').mp hf'
    exact Fin.ext (by omega))

theorem disjoint_6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (by
    have h0 : win0_6.index t 0 = win0_6.index t' 0 := congrFun h 0
    rw [(index_6 t).1, (index_6 t').1] at h0
    have e := (flush0_6 t).mp hf
    have e' := (flush0_6 t').mp hf'
    exact Fin.ext (by omega))

/-- The point that computes row `r` and column `n` of `y`, -/
def pointOf (r : Fin 12288) (n : Fin 30848) : Fin cfg0.N := ⟨31 * (r.val / 1024) + n.val / 1024, by show _ < 372; omega⟩
/-- and the last point of the row blocks with row `r`. -/
def lastOf (r : Fin 12288) : Fin cfg0.N := ⟨31 * (r.val / 1024) + 30, by show _ < 372; omega⟩
/-- The row within its block. -/
def rowIn (r : Fin 12288) : Fin 1024 := ⟨r.val % 1024, Nat.mod_lt _ (by norm_num)⟩

theorem pointOf_div (r : Fin 12288) (n : Fin 30848) : (pointOf r n).val / 31 = r.val / 1024 := by
  show (31 * (r.val / 1024) + n.val / 1024) / 31 = _; omega
theorem pointOf_mod (r : Fin 12288) (n : Fin 30848) : (pointOf r n).val % 31 = n.val / 1024 := by
  show (31 * (r.val / 1024) + n.val / 1024) % 31 = _; omega
theorem lastOf_div (r : Fin 12288) : (lastOf r).val / 31 = r.val / 1024 := by
  show (31 * (r.val / 1024) + 30) / 31 = _; omega
theorem lastOf_mod (r : Fin 12288) : (lastOf r).val % 31 = 30 := by
  show (31 * (r.val / 1024) + 30) % 31 = _; omega

theorem row_pointOf (r : Fin 12288) (n : Fin 30848) : row (pointOf r n) (rowIn r) = r :=
  Fin.ext (by show 1024 * ((pointOf r n).val / 31) + r.val % 1024 = r.val; rw [pointOf_div]; omega)
theorem row_lastOf (r : Fin 12288) : row (lastOf r) (rowIn r) = r :=
  Fin.ext (by show 1024 * ((lastOf r).val / 31) + r.val % 1024 = r.val; rw [lastOf_div]; omega)

theorem y_at (c : Dev nD) (r : Fin 12288) (n : Fin 30848) :
    ((dats m 0 c).arrAt 4 cfg0.N : Vec F S12288x30848 .bf16) (ix2 r n)
      = yBlk m c (pointOf r n) (ix2 (rowIn r) ⟨n.val % 1024, Nat.mod_lt _ (by norm_num)⟩) := by
  have hs := size_4 (pointOf r n)
  have h0 : r.val % 1024 < win0_4.xsize (grid0.coords (pointOf r n)) 0 := by rw [hs.1]; omega
  have h1 : n.val % 1024 < win0_4.xsize (grid0.coords (pointOf r n)) 1 := by
    rw [hs.2]; unfold width; rw [pointOf_mod]; omega
  let j : ((cfg0.win 4).xblock (grid0.coords (pointOf r n))).Idx := fun a => match a with
    | ⟨0, _⟩ => ⟨r.val % 1024, h0⟩
    | ⟨1, _⟩ => ⟨n.val % 1024, h1⟩
  have key := congrFun ((dats m 0 c).read_blk_arrAt_eq_flushed 4 disjoint_4 cfg0.N (pointOf r n) (pointOf r n).isLt (flush0_4 _)) j
  rw [read_4 (pointOf r n) ((dats m 0 c).arrAt 4 cfg0.N) j (ix2 r n)
    (by show r.val = 1024 * ((pointOf r n).val / 31) + r.val % 1024; rw [pointOf_div]; omega)
    (by show n.val = 1024 * ((pointOf r n).val % 31) + n.val % 1024; rw [pointOf_mod]; omega)] at key
  refine key.trans ?_
  show (dats m 0 c).after 4 (pointOf r n) ((cfg0.win 4).xinj (grid0.coords (pointOf r n)) j) = _
  rw [after_4]
  refine congrArg _ (funext fun a => ?_)
  match a with
  | ⟨0, _⟩ => rfl
  | ⟨1, _⟩ => rfl

theorem codes_at (c : Dev nD) (r : Fin 12288) (k : Fin 2816) :
    ((dats m 0 c).arrAt 5 cfg0.N : Vec F S12288x2816 .fp8e4m3) (ix2 r k) = codesRow m c (lastOf r) (ix2 (rowIn r) k) := by
  have key := congrFun ((dats m 0 c).read_blk_arrAt_eq_flushed 5 disjoint_5 cfg0.N (lastOf r) (lastOf r).isLt ((flush0_5 _).mpr (lastOf_mod r)))
    (ix2 (rowIn r) k)
  rw [read_5 (lastOf r) ((dats m 0 c).arrAt 5 cfg0.N) (ix2 (rowIn r) k) (ix2 r k)
    (by show r.val = 1024 * ((lastOf r).val / 31) + r.val % 1024; rw [lastOf_div]; omega) rfl] at key
  refine key.trans ?_
  show (dats m 0 c).after 5 (lastOf r) _ = _
  rw [after_5]
  rfl

theorem scales_at (c : Dev nD) (r : Fin 12288) :
    ((dats m 0 c).arrAt 6 cfg0.N : Vec F S12288x1 .f32) (ix2 r 0) = scaleRow m c (lastOf r) (ix2 (rowIn r) 0) := by
  have key := congrFun ((dats m 0 c).read_blk_arrAt_eq_flushed 6 disjoint_6 cfg0.N (lastOf r) (lastOf r).isLt ((flush0_6 _).mpr (lastOf_mod r)))
    (ix2 (rowIn r) 0)
  rw [read_6 (lastOf r) ((dats m 0 c).arrAt 6 cfg0.N) (ix2 (rowIn r) 0) (ix2 r 0)
    (by show r.val = 1024 * ((lastOf r).val / 31) + r.val % 1024; rw [lastOf_div]; omega) rfl] at key
  refine key.trans ?_
  show (dats m 0 c).after 6 (lastOf r) _ = _
  rw [after_6]
  rfl

end Cert.KernelIdeal.Hand

end
-- ==== Proof.Scale.lean ====
/- The scale of a row, as mathematics.

   With `z` the row's greatest magnitude divided by 448, the scale is the least power of two above `z`, and one where
   `z` is below the least normal number or infinite. The kernel finds it by counting: it compares `z` with the 256 floats
   whose significand is zero, in increasing order, and shifts the count into the exponent's place. The reference takes
   the least of the powers of two that are above `z`. Both are the power whose index is the count. -/
module

public import Idealize.ShloMosaic.Lib.Pointwise

@[expose] public section

noncomputable section

namespace Cert.Proof.Scale

open Idealize.ShloMosaic

/-! ## The powers of two -/

/-- The float whose exponent field is `k` and whose other bits are zero, as an extended real. -/
def power (k : ℕ) : EReal := Ideal.ofBits .f32 (BitVec.ofNat 32 k <<< 23)

theorem fields : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

theorem significand (k : ℤ) : (1 : ℝ) * ((2 ^ 23 + 0 : ℕ) : ℝ) * (2 : ℝ) ^ (k - (2 ^ (8 - 1) - 1) - ((23 : ℕ) : ℤ)) = (2 : ℝ) ^ (k - 127) := by
  have e : k - (2 ^ (8 - 1) - 1) - ((23 : ℕ) : ℤ) = (k - 127) - 23 := by norm_num
  have h2 : ((2 ^ 23 + 0 : ℕ) : ℝ) = (2 : ℝ) ^ (23 : ℤ) := by norm_num
  rw [e, zpow_sub₀ (by norm_num), h2, one_mul, mul_div_cancel₀]
  positivity

theorem power_eq (k : ℕ) (h : k < 256) :
    power k = if k = 255 then ⊤ else if k = 0 then 0 else (((2 : ℝ) ^ ((k : ℤ) - 127) : ℝ) : EReal) := by
  obtain ⟨h1, h2, h3⟩ := fields ⟨k, h⟩
  show Ideal.ieee 8 23 (BitVec.ofNat 32 k <<< 23) = _
  generalize BitVec.ofNat 32 k <<< 23 = b at h1 h2 h3 ⊢
  unfold Ideal.ieee
  simp only [h1, h2, h3, Bool.false_eq_true, if_false, if_true]
  by_cases h255 : k = 255
  · rw [if_pos (show k = 2 ^ 8 - 1 by omega), if_pos h255]
  · rw [if_neg (show ¬ k = 2 ^ 8 - 1 by omega), if_neg h255]
    by_cases h0 : k = 0
    · rw [if_pos h0, if_pos h0, Nat.cast_zero, mul_zero, zero_mul, EReal.coe_zero]
    · rw [if_neg h0, if_neg h0]
      exact congrArg _ (significand k)

theorem power_zero : power 0 = 0 := by rw [power_eq 0 (by norm_num)]; rfl
theorem power_top : power 255 = ⊤ := by rw [power_eq 255 (by norm_num)]; rfl
theorem power_of (k : ℕ) (h0 : 0 < k) (h : k < 255) : power k = (((2 : ℝ) ^ ((k : ℤ) - 127) : ℝ) : EReal) := by
  rw [power_eq k (by omega), if_neg (by omega), if_neg (by omega)]
theorem power_one : power 127 = 1 := by rw [power_of 127 (by norm_num) (by norm_num)]; norm_num

theorem power_pos (k : ℕ) (h0 : 0 < k) (h : k < 256) : 0 < power k := by
  rcases Nat.lt_or_ge k 255 with h' | h'
  · rw [power_of k h0 h']; exact_mod_cast (by positivity : (0 : ℝ) < 2 ^ ((k : ℤ) - 127))
  · rw [show k = 255 by omega, power_top]; exact EReal.zero_lt_top

theorem power_lt (j k : ℕ) (hjk : j < k) (h : k < 256) : power j < power k := by
  rcases Nat.eq_zero_or_pos j with rfl | hj
  · rw [power_zero]; exact power_pos k hjk h
  rw [power_of j hj (by omega)]
  rcases Nat.lt_or_ge k 255 with h' | h'
  · rw [power_of k (by omega) h', EReal.coe_lt_coe_iff]
    exact zpow_lt_zpow_right₀ (by norm_num) (by omega)
  · rw [show k = 255 by omega, power_top]; exact EReal.coe_lt_top _

theorem power_le (j k : ℕ) (hjk : j ≤ k) (h : k < 256) : power j ≤ power k := by
  rcases Nat.lt_or_ge j k with h' | h'
  · exact le_of_lt (power_lt j k h' h)
  · rw [show j = k by omega]

/-- One over a power of two is the power on the other side of one. -/
theorem div_power (k : ℕ) (h0 : 0 < k) (h : k < 254) : Ideal.div 1 (power k) = power (254 - k) := by
  unfold Ideal.div
  rw [if_neg (ne_of_gt (power_pos k h0 (by omega))), one_mul, power_of k h0 (by omega), power_of (254 - k) (by omega) (by omega),
    ← EReal.coe_inv, ← zpow_neg]
  congr 2
  push_cast [show k ≤ 254 by omega]
  ring

/-! ## Counting the powers below a number -/

/-- A number that is not negative is above the first `N` of the 256 powers and no others. -/
theorem exists_count (z : EReal) (hz : 0 ≤ z) :
    ∃ N, 1 ≤ N ∧ N ≤ 256 ∧ ∀ k < 256, power k ≤ z ↔ k < N := by
  classical
  by_cases hall : ∃ k, k < 256 ∧ ¬ power k ≤ z
  · refine ⟨Nat.find hall, ?_, (Nat.find_spec hall).1.le, fun k hk => ⟨fun hle => ?_, fun hlt => ?_⟩⟩
    · rw [Nat.one_le_iff_ne_zero]
      intro h0
      have := (Nat.find_spec hall).2
      rw [h0, power_zero] at this
      exact this hz
    · by_contra hge
      exact (Nat.find_spec hall).2 ((power_le _ _ (Nat.le_of_not_lt hge) hk).trans hle)
    · by_contra hnot
      exact Nat.find_min hall hlt ⟨hk, hnot⟩
  · push Not at hall
    exact ⟨256, by norm_num, le_refl _, fun k hk => ⟨fun _ => hk, fun _ => hall k hk⟩⟩

/-- A sum of bits, as words, is the number of the bits that are set. -/
theorem fold_count {ι : Type} (s : Finset ι) (P : ι → Prop) [DecidablePred P] :
    Finset.fold IntOp.addi (0#32) (fun x => BitVec.setWidth 32 (BitVec.ofBool (decide (P x)))) s = BitVec.ofNat 32 (s.filter P).card := by
  classical
  induction s using Finset.induction_on with
  | empty => rfl
  | insert a s ha ih =>
    rw [Finset.fold_insert ha, ih, Finset.filter_insert]
    by_cases hp : P a
    · rw [if_pos hp, Finset.card_insert_of_notMem (fun h => ha (Finset.mem_filter.mp h).1)]
      simp only [hp, decide_true]
      show BitVec.setWidth 32 (BitVec.ofBool true) + _ = _
      rw [Nat.add_comm, BitVec.ofNat_add]; rfl
    · rw [if_neg hp]
      simp only [hp, decide_false]
      show BitVec.setWidth 32 (BitVec.ofBool false) + _ = _
      rw [show BitVec.setWidth 32 (BitVec.ofBool false) = 0#32 from rfl, BitVec.zero_add]

/-- The kernel's count of the powers that `z` is not below. -/
def count (z : EReal) : BitVec 32 :=
  Finset.fold IntOp.addi (0#32)
    (fun k : Fin 256 => BitVec.setWidth 32 (BitVec.ofBool (decide (Ideal.ofBits .f32 (IntOp.shli .vector (BitVec.ofNat 32 k.val) 23#32) ≤ z))))
    Finset.univ

theorem shli_23 (v : BitVec 32) : IntOp.shli .vector v 23#32 = v <<< 23 := rfl

theorem count_eq (z : EReal) (N : ℕ) (hN : N ≤ 256) (h : ∀ k < 256, power k ≤ z ↔ k < N) : count z = BitVec.ofNat 32 N := by
  unfold count
  rw [fold_count]
  congr 1
  rw [Finset.filter_congr (q := fun k : Fin 256 => k.val < N) (fun k _ => by rw [shli_23]; exact h k.val k.isLt),
    Fin.card_filter_val_lt, Nat.min_eq_right hN]

/-! ## The kernel's scale and its inverse -/

/-- The exponent the kernel takes: with the row's greatest magnitude `a` and the count `n`. -/
def exponent (a : EReal) (n : BitVec 32) : BitVec 32 :=
  if a = 0 then 0#32
  else Scalar.select (IntOp.ori (IntOp.cmpi .sle n 1#32) (IntOp.cmpi .eq n 256#32)) (0#32) (IntOp.subi n 127#32)

/-- The power of two of exponent `e`, its bits put together. -/
def pow (e : BitVec 32) : EReal :=
  Ideal.ofBits .f32 (IntOp.shli .vector (IntOp.minsi (255#32) (IntOp.maxsi (0#32) (IntOp.addi e 127#32))) 23#32)

/-- The index of the scale among the powers, by the count, -/
def index (N : ℕ) : ℕ := if N ≤ 1 ∨ N = 256 then 127 else N
/-- and of its inverse. -/
def invIndex (N : ℕ) : ℕ := if N ≤ 1 ∨ N = 256 then 127 else 254 - N

theorem words : ∀ N : Fin 257,
    let e := Scalar.select (IntOp.ori (IntOp.cmpi .sle (BitVec.ofNat 32 N.val) 1#32) (IntOp.cmpi .eq (BitVec.ofNat 32 N.val) 256#32)) (0#32)
      (IntOp.subi (BitVec.ofNat 32 N.val) 127#32)
    IntOp.minsi (255#32) (IntOp.maxsi (0#32) (IntOp.addi e 127#32)) = BitVec.ofNat 32 (index N.val)
    ∧ IntOp.minsi (255#32) (IntOp.maxsi (0#32) (IntOp.addi (IntOp.subi (0#32) e) 127#32)) = BitVec.ofNat 32 (invIndex N.val)
    ∧ (N.val ≤ 1 → e = 0#32) := by decide +kernel

/-- A row of zeros has the count of a row too small to scale. -/
theorem exponent_eq (a z : EReal) (N : ℕ) (hN : N ≤ 256) (h : ∀ k < 256, power k ≤ z ↔ k < N) (ha : a = 0 → z = 0) :
    exponent a (count z) = Scalar.select (IntOp.ori (IntOp.cmpi .sle (BitVec.ofNat 32 N) 1#32) (IntOp.cmpi .eq (BitVec.ofNat 32 N) 256#32)) (0#32)
      (IntOp.subi (BitVec.ofNat 32 N) 127#32) := by
  unfold exponent
  rw [count_eq z N hN h]
  by_cases h0 : a = 0
  · rw [if_pos h0]
    have hN1 : N ≤ 1 := by
      by_contra hc
      have := (h 1 (by norm_num)).mpr (by omega)
      rw [ha h0] at this
      exact absurd this (not_le.mpr (power_pos 1 (by norm_num) (by norm_num)))
    exact ((words ⟨N, by omega⟩).2.2 hN1).symm
  · rw [if_neg h0]

theorem pow_exponent (a z : EReal) (N : ℕ) (hN : N ≤ 256) (h : ∀ k < 256, power k ≤ z ↔ k < N) (ha : a = 0 → z = 0) :
    pow (exponent a (count z)) = power (index N) := by
  rw [exponent_eq a z N hN h ha]
  unfold pow power
  rw [(words ⟨N, by omega⟩).1, shli_23]

theorem pow_neg_exponent (a z : EReal) (N : ℕ) (hN : N ≤ 256) (h : ∀ k < 256, power k ≤ z ↔ k < N) (ha : a = 0 → z = 0) :
    pow (IntOp.subi (0#32) (exponent a (count z))) = power (invIndex N) := by
  rw [exponent_eq a z N hN h ha]
  unfold pow power
  rw [(words ⟨N, by omega⟩).2.1, shli_23]

/-! ## The reference's scale and its inverse -/

/-- The least power of two above `z`; one where `z` is below the least normal number or infinite. -/
def scale (z : EReal) : EReal :=
  if power 1 ≤ z ∧ z < ⊤ then Finset.fold min ⊤ (fun k : Fin 253 => if z < power (k.val + 2) then power (k.val + 2) else ⊤) Finset.univ else 1

/-- One over the scale; zero where that is below the least normal number. -/
def inverse (s : EReal) : EReal := if power 253 < s then 0 else Ideal.div 1 s

theorem scale_eq (z : EReal) (N : ℕ) (hN1 : 1 ≤ N) (hN : N ≤ 256) (h : ∀ k < 256, power k ≤ z ↔ k < N) : scale z = power (index N) := by
  unfold scale index
  by_cases hc : N ≤ 1 ∨ N = 256
  · rw [if_pos hc, power_one, if_neg]
    rintro ⟨h1, h2⟩
    have h1' := (h 1 (by norm_num)).mp h1
    have h2' : ¬ 255 < N := fun hh => absurd ((h 255 (by norm_num)).mpr hh) (by rw [power_top]; exact not_le.mpr h2)
    omega
  · rw [if_neg hc, if_pos ⟨(h 1 (by norm_num)).mpr (by omega), by
      have : ¬ power 255 ≤ z := fun hh => by have := (h 255 (by norm_num)).mp hh; omega
      rwa [power_top, not_le] at this⟩]
    apply le_antisymm
    · rw [Finset.fold_min_le]
      rcases Nat.lt_or_ge N 255 with hlt | hge
      · right
        refine ⟨⟨N - 2, by omega⟩, Finset.mem_univ _, ?_⟩
        show (if z < power (N - 2 + 2) then power (N - 2 + 2) else ⊤) ≤ _
        rw [show N - 2 + 2 = N by omega, if_pos (not_le.mp fun hh => absurd ((h N (by omega)).mp hh) (lt_irrefl _))]
      · left
        rw [show N = 255 by omega, power_top]
    · rw [Finset.le_fold_min]
      refine ⟨le_top, fun k _ => ?_⟩
      split_ifs with hz
      · refine power_le _ _ ?_ (by have := k.isLt; omega)
        by_contra hlt
        exact absurd ((h (k.val + 2) (by omega)).mpr (by omega)) (not_le.mpr hz)
      · exact le_top

theorem inverse_eq (N : ℕ) (hN1 : 1 ≤ N) (hN : N ≤ 256) : inverse (power (index N)) = power (invIndex N) := by
  unfold inverse index invIndex
  by_cases hc : N ≤ 1 ∨ N = 256
  · simp only [if_pos hc]
    rw [if_neg (not_lt.mpr (power_le 127 253 (by norm_num) (by norm_num))), div_power 127 (by norm_num) (by norm_num)]
  · simp only [if_neg hc]
    rcases Nat.lt_or_ge N 254 with hlt | hge
    · rw [if_neg (not_lt.mpr (power_le N 253 (by omega) (by norm_num))), div_power N (by omega) hlt]
    · rw [if_pos (power_lt 253 N (by omega) (by omega)), show 254 - N = 0 by omega, power_zero]

/-! ## They are the same -/

theorem pow_eq_scale (a z : EReal) (hz : 0 ≤ z) (ha : a = 0 → z = 0) : pow (exponent a (count z)) = scale z := by
  obtain ⟨N, h1, hN, h⟩ := exists_count z hz
  rw [pow_exponent a z N hN h ha, scale_eq z N h1 hN h]

theorem pow_eq_inverse (a z : EReal) (hz : 0 ≤ z) (ha : a = 0 → z = 0) :
    pow (IntOp.subi (0#32) (exponent a (count z))) = inverse (scale z) := by
  obtain ⟨N, h1, hN, h⟩ := exists_count z hz
  rw [pow_neg_exponent a z N hN h ha, scale_eq z N h1 hN h, inverse_eq N h1 hN]

end Cert.Proof.Scale

end
-- ==== Proof.Linear.lean ====
/- What both programs compute, row by row, over the extended reals. -/
module

public import proofs.«01_k».proof.Proof.Scale

@[expose] public section

noncomputable section

namespace Cert.Proof

open Idealize.ShloMosaic

/-- The greatest magnitude in a row. -/
def greatest (x : Fin 2816 → EReal) : EReal :=
  Finset.fold max (Ideal.ofBits .f32 0xFF800000#32) (fun k => FloatOps.absf (F := Ideal) (φ := .f32) (x k)) Finset.univ

/-- It over 448 (by the float nearest to 1/448). -/
def ratio (x : Fin 2816 → EReal) : EReal := greatest x * Ideal.ofBits .f32 0x3B124925#32

/-- The row's scale, -/
def rowScale (x : Fin 2816 → EReal) : EReal := Scale.scale (ratio x)

/-- its codes: divided by the scale and clipped to [-448, 448], -/
def code (x : Fin 2816 → EReal) (k : Fin 2816) : EReal :=
  min (Ideal.ofBits .f32 0x43E00000#32) (max (Ideal.ofBits .f32 0xC3E00000#32) (x k * Scale.inverse (rowScale x)))

/-- and the dequantised product with a row of weights of scale `s`, plus the residual `res`. -/
def output (x w : Fin 2816 → EReal) (s res : EReal) : EReal := (∑ k : Fin 2816, code x k * w k) * rowScale x * s + res

theorem greatest_nonneg (x : Fin 2816 → EReal) : 0 ≤ greatest x := by
  unfold greatest
  rw [Finset.le_fold_max]
  refine Or.inr ⟨0, Finset.mem_univ _, ?_⟩
  show (0 : EReal) ≤ max (x 0) (-(x 0))
  rcases le_total 0 (x 0) with h | h
  · exact le_max_of_le_left h
  · exact le_max_of_le_right (by rw [← neg_zero]; exact EReal.neg_le_neg_iff.mpr h)

theorem inv448_nonneg : 0 ≤ Ideal.ofBits .f32 0x3B124925#32 := by
  have h1 : ((0x3B124925#32).extractLsb' 31 1 == 1#1) = false := by decide
  have h2 : ((0x3B124925#32).extractLsb' 23 8).toNat = 118 := by decide
  show 0 ≤ Ideal.ieee 8 23 (0x3B124925#32)
  generalize (0x3B124925#32) = b at h1 h2 ⊢
  unfold Ideal.ieee
  simp only [h1, h2, Bool.false_eq_true, if_false, one_mul]
  rw [if_neg (by norm_num), if_neg (by norm_num)]
  exact EReal.coe_nonneg.mpr (by positivity)

theorem ratio_nonneg (x : Fin 2816 → EReal) : 0 ≤ ratio x := mul_nonneg (greatest_nonneg x) inv448_nonneg

theorem ratio_zero (x : Fin 2816 → EReal) (h : greatest x = 0) : ratio x = 0 := by unfold ratio; rw [h, zero_mul]

/-- The kernel's way to the scale -/
theorem pow_rowScale (x : Fin 2816 → EReal) : Scale.pow (Scale.exponent (greatest x) (Scale.count (ratio x))) = rowScale x :=
  Scale.pow_eq_scale _ _ (ratio_nonneg x) (ratio_zero x)

/-- and to its inverse. -/
theorem pow_inverse (x : Fin 2816 → EReal) :
    Scale.pow (IntOp.subi (0#32) (Scale.exponent (greatest x) (Scale.count (ratio x)))) = Scale.inverse (rowScale x) :=
  Scale.pow_eq_inverse _ _ (ratio_nonneg x) (ratio_zero x)

end Cert.Proof

end
-- ==== Proof.KernelValue.lean ====
/- What the kernel leaves in its three outputs, over the extended reals. -/
module

public import proofs.«01_k».proof.Proof.Blocks
public import proofs.«01_k».proof.Proof.Linear

@[expose] public section

set_option maxRecDepth 65536

noncomputable section

namespace Cert.KernelIdeal.Hand

open Idealize.ShloMosaic Idealize.ShloMosaic.TcCoe
open Idealize.SL Idealize.SL.Sem
open Idealize.ShloMosaic.Pipeline (Dat Cfg Window)
open Cert.KernelIdeal.Gen
open Cert.Proof

/-! ## The body's values at an index -/

/-- The column of the rows' greatest magnitudes, -/
def greatestCol (x : Vec Ideal S1024x2816 .bf16) : FVec Ideal S1024x1 .f32 :=
  shapeCast S1024x1 (multiReduction .maximumf [1] S1024 (absf (k0_pay3 x)) 0xFF800000#32 reduces_S1024x2816_S1024 (.inl rfl) rfl) shapeCasts_S1024_S1024x1

/-- the column of the counts of powers of two, -/
def countCol (z : FVec Ideal S1024x1 .f32) : IVec S1024x1 32 :=
  have word : IVec S1x256 32 := shli (iota .tc S1x256 32 [1] iota_S1x256_d1_w32) (broadcast S1x256 23#32)
  have below : IVec S1024x256 1 := cmpf .ole (broadcastTo S1024x256 (bitcastToFloat .f32 word : FVec Ideal S1x256 .f32) broadcasts_S1x256_S1024x256)
    (broadcastTo S1024x256 z broadcasts_S1024x1_S1024x256)
  shapeCast S1024x1 (multiReductionI .add [1] S1024 (extui 32 below natLt_1_32) 0#32 reduces_S1024x256_S1024 rfl : IVec S1024 32) shapeCasts_S1024_S1024x1

/-- the column of the ratios to the format's greatest value, -/
def ratioCol (a : FVec Ideal S1024x1 .f32) : FVec Ideal S1024x1 .f32 :=
  mulf a (broadcast S1024x1 (Scalar.ofBits (F := Ideal) .f32 0x3B124925#32))

/-- and the column of the exponents. -/
def exponentCol (a : FVec Ideal S1024x1 .f32) (n : IVec S1024x1 32) : IVec S1024x1 32 :=
  select (cmpf .oeq a (broadcast S1024x1 (Scalar.ofBits (F := Ideal) .f32 0x00000000#32))) (broadcast S1024x1 0#32)
    (select (ori (cmpi .sle n (broadcast S1024x1 1#32)) (cmpi .eq n (broadcast S1024x1 256#32))) (broadcast S1024x1 0#32)
      (subi n (broadcast S1024x1 127#32)))

theorem pay4_eq (x : Vec Ideal S1024x2816 .bf16) :
    k0_pay4 x = exponentCol (greatestCol x) (countCol (ratioCol (greatestCol x))) := rfl

theorem greatestCol_apply (x : Vec Ideal S1024x2816 .bf16) (p : Fin 1024) :
    greatestCol x (ix2 p 0) = greatest (fun k => x (ix2 p k)) := by
  unfold greatest
  pointwise [greatestCol, k0_pay3]

theorem countCol_apply (z : FVec Ideal S1024x1 .f32) (p : Fin 1024) : countCol z (ix2 p 0) = Scale.count (z (ix2 p 0)) := by
  unfold Scale.count
  pointwise [countCol]

theorem exponentCol_apply (a : FVec Ideal S1024x1 .f32) (n : IVec S1024x1 32) (p : Fin 1024) :
    exponentCol a n (ix2 p 0) = Scale.exponent (a (ix2 p 0)) (n (ix2 p 0)) := by
  unfold Scale.exponent
  pointwise [exponentCol]

theorem ratioCol_apply (a : FVec Ideal S1024x1 .f32) (p : Fin 1024) :
    ratioCol a (ix2 p 0) = a (ix2 p 0) * Ideal.ofBits .f32 0x3B124925#32 := by
  pointwise [ratioCol]

theorem pay4_apply (x : Vec Ideal S1024x2816 .bf16) (p : Fin 1024) :
    k0_pay4 x (ix2 p 0) = Scale.exponent (greatest fun k => x (ix2 p k)) (Scale.count (ratio fun k => x (ix2 p k))) := by
  have h : ratioCol (greatestCol x) (ix2 p 0) = ratio fun k => x (ix2 p k) :=
    (ratioCol_apply (greatestCol x) p).trans (congrArg (fun z : EReal => z * Ideal.ofBits .f32 0x3B124925#32) (greatestCol_apply x p))
  exact (congrFun (pay4_eq x) (ix2 p 0)).trans ((exponentCol_apply _ _ p).trans
    (congrArg₂ Scale.exponent (greatestCol_apply x p) ((countCol_apply _ p).trans (congrArg Scale.count h))))

theorem scaleOf_apply (x : Vec Ideal S1024x2816 .bf16) (p : Fin 1024) : scaleOf x (ix2 p 0) = rowScale (fun k => x (ix2 p k)) := by
  rw [← Cert.Proof.pow_rowScale, ← pay4_apply]
  unfold Scale.pow
  pointwise [scaleOf, k0_pay5]

theorem codesOf_apply (x : Vec Ideal S1024x2816 .bf16) (p : Fin 1024) (k : Fin 2816) : codesOf x (ix2 p k) = code (fun k => x (ix2 p k)) k := by
  unfold code
  rw [← Cert.Proof.pow_inverse, ← pay4_apply]
  unfold Scale.pow
  pointwise [codesOf, k0_pay1, k0_pay3, k0_pay6]

theorem pay2_apply (c : Vec Ideal S1024x2816 .fp8e4m3) (w : Vec Ideal S1024x2816 .fp8e4m3) (s : Vec Ideal S1024x1 .f32)
    (ws : Vec Ideal S1x1024 .f32) (res : Vec Ideal S1024x1024 .bf16) (p : Fin 1024) (n : Fin 1024) :
    k0_pay2 c w s ws res (ix2 p n) = (∑ k : Fin 2816, c (ix2 p k) * w (ix2 n k)) * s (ix2 p 0) * ws (ix2 0 n) + res (ix2 p n) := by
  pointwise [k0_pay2]

/-! ## The blocks -/

variable (m : (ℓ : Loc nD τ sig) → Buf (Elt Ideal) ℓ) (ρ : Dev nD → PrngReg)

/-- Row `r` of the activations. -/
def xRow (c : Dev nD) (r : Fin 12288) : Fin 2816 → EReal := fun k => xArr m c (ix2 r k)

theorem codesRow_apply (c : Dev nD) (t : Fin cfg0.N) (p : Fin 1024) (k : Fin 2816) :
    codesRow m c t (ix2 p k) = code (xRow m c (row t p)) k := by
  unfold codesRow
  rw [codesOf_apply]
  refine congrArg (fun f => code f k) (funext fun k' => ?_)
  rw [x_at, row_rowStart]; rfl

theorem scaleRow_apply (c : Dev nD) (t : Fin cfg0.N) (p : Fin 1024) : scaleRow m c t (ix2 p 0) = rowScale (xRow m c (row t p)) := by
  unfold scaleRow
  rw [scaleOf_apply]
  refine congrArg rowScale (funext fun k' => ?_)
  rw [x_at, row_rowStart]; rfl

/-- The block of `y` on the columns that exist, whatever the staging buffers hold past them. -/
theorem pay2_fill (c : Dev nD) (t : Fin cfg0.N) (d1 d2 d3) (p n : Fin 1024) (hn : 1024 * (t.val % 31) + n.val < 30848) :
    k0_pay2 (codesRow m c t) (win0_1.fill (grid0.coords t) d1 (iblk m c 1 t)) (scaleRow m c t)
        (win0_2.fill (grid0.coords t) d2 (iblk m c 2 t)) (win0_3.fill (grid0.coords t) d3 (iblk m c 3 t)) (ix2 p n)
      = output (xRow m c (row t p)) (fun k => wArr m c (ix2 ⟨1024 * (t.val % 31) + n.val, hn⟩ k))
          (wsArr m c (ix2 0 ⟨1024 * (t.val % 31) + n.val, hn⟩)) (resArr m c (ix2 (row t p) ⟨1024 * (t.val % 31) + n.val, hn⟩)) := by
  rw [pay2_apply, scaleRow_apply, fill_2 m c t d2 n hn, fill_3 m c t d3 p n hn]
  have e : (∑ k : Fin 2816, codesRow m c t (ix2 p k) * win0_1.fill (grid0.coords t) d1 (iblk m c 1 t) (ix2 n k))
      = ∑ k : Fin 2816, code (xRow m c (row t p)) k * wArr m c (ix2 ⟨1024 * (t.val % 31) + n.val, hn⟩ k) :=
    Finset.sum_congr rfl fun k _ => by rw [codesRow_apply, fill_1 m c t d1 n k hn]
  rw [e]
  rfl

/-- So the columns that exist do not depend on the rest. -/
theorem isLocal : Local m := by
  intro c t d1 d2 d3
  funext j
  have hs := size_4 t
  have hw : (j 1).val < width t := by rw [← hs.2]; exact (j 1).isLt
  have h0 : (j 0).val < 1024 := by rw [← hs.1]; exact (j 0).isLt
  have h1 : (j 1).val < 1024 := by unfold width at hw; omega
  have hn : 1024 * (t.val % 31) + (⟨(j 1).val, h1⟩ : Fin 1024).val < 30848 := by
    show 1024 * (t.val % 31) + (j 1).val < 30848
    unfold width at hw; omega
  have hj : win0_4.xinj (grid0.coords t) j = ix2 (⟨(j 0).val, h0⟩ : Fin 1024) (⟨(j 1).val, h1⟩ : Fin 1024) := funext fun a => by
    match a with
    | ⟨0, _⟩ => rfl
    | ⟨1, _⟩ => rfl
  show k0_pay2 (F := Ideal) (codesRow m c t) (win0_1.fill (grid0.coords t) d1 (iblk m c 1 t)) (scaleRow m c t)
        (win0_2.fill (grid0.coords t) d2 (iblk m c 2 t)) (win0_3.fill (grid0.coords t) d3 (iblk m c 3 t)) (win0_4.xinj (grid0.coords t) j) = yBlk m c t (win0_4.xinj (grid0.coords t) j)
  rw [hj]
  unfold yBlk wFill wsFill resFill
  rw [pay2_fill m c t d1 d2 d3 _ _ hn]
  exact (pay2_fill m c t _ _ _ _ _ hn).symm

/-! ## The arrays -/

theorem y_value (c : Dev nD) (r : Fin 12288) (n : Fin 30848) :
    ((dats m 0 c).arrAt 4 cfg0.N : Vec Ideal S12288x30848 .bf16) (ix2 r n)
      = output (xRow m c r) (fun k => wArr m c (ix2 n k)) (wsArr m c (ix2 0 n)) (resArr m c (ix2 r n)) := by
  have e : 1024 * ((pointOf r n).val % 31) + n.val % 1024 = n.val := by rw [pointOf_mod]; omega
  rw [y_at]
  unfold yBlk wFill wsFill resFill
  rw [pay2_fill m c (pointOf r n) _ _ _ _ ⟨n.val % 1024, Nat.mod_lt _ (by norm_num)⟩ (by show 1024 * ((pointOf r n).val % 31) + n.val % 1024 < 30848; rw [e]; exact n.isLt),
    row_pointOf]
  have hn : (⟨1024 * ((pointOf r n).val % 31) + n.val % 1024, by rw [e]; exact n.isLt⟩ : Fin 30848) = n := Fin.ext e
  show output (xRow m c r) (fun k => wArr m c (ix2 ⟨1024 * ((pointOf r n).val % 31) + n.val % 1024, _⟩ k))
    (wsArr m c (ix2 0 ⟨1024 * ((pointOf r n).val % 31) + n.val % 1024, _⟩)) (resArr m c (ix2 r ⟨1024 * ((pointOf r n).val % 31) + n.val % 1024, _⟩)) = _
  rw [hn]

theorem codes_value (c : Dev nD) (r : Fin 12288) (k : Fin 2816) :
    ((dats m 0 c).arrAt 5 cfg0.N : Vec Ideal S12288x2816 .fp8e4m3) (ix2 r k) = code (xRow m c r) k := by
  rw [codes_at, codesRow_apply, row_lastOf]

theorem scales_value (c : Dev nD) (r : Fin 12288) :
    ((dats m 0 c).arrAt 6 cfg0.N : Vec Ideal S12288x1 .f32) (ix2 r 0) = rowScale (xRow m c r) := by
  rw [scales_at, scaleRow_apply, row_lastOf]

end Cert.KernelIdeal.Hand

end
-- ==== Proof.Rows.lean ====
/- Row `s` of batch `b` is row `3072 b + s` of the flattened array. -/
module

public import Idealize.ShloMosaic.Lib.Pointwise

@[expose] public section

noncomputable section

namespace Cert.Proof

open Idealize.ShloMosaic

/-- The row of the flattened array. -/
abbrev flat (b : Fin 4) (s : Fin 3072) : Fin 12288 := ⟨b.val * 3072 + s.val, by omega⟩

theorem flatten_apply {α : Type} {n : ℕ} (X : (⟨3, ![4, 3072, n]⟩ : Shape).Idx → α) (h : Shape.ShapeCasts ⟨3, ![4, 3072, n]⟩ ⟨2, ![12288, n]⟩)
    (b : Fin 4) (s : Fin 3072) (k : Fin n) : shapeCast ⟨2, ![12288, n]⟩ X h (ix2 (flat b s) k) = X (ix3 b s k) := by
  refine shapeCast_apply _ _ _ _ ?_
  rw [Shape.rowMajor_val_two, Shape.rowMajor_val_three]
  rfl

theorem unflatten_apply {α : Type} {n : ℕ} (X : (⟨2, ![12288, n]⟩ : Shape).Idx → α) (h : Shape.ShapeCasts ⟨2, ![12288, n]⟩ ⟨3, ![4, 3072, n]⟩)
    (b : Fin 4) (s : Fin 3072) (k : Fin n) : shapeCast ⟨3, ![4, 3072, n]⟩ X h (ix3 b s k) = X (ix2 (flat b s) k) := by
  refine shapeCast_apply _ _ _ _ ?_
  rw [Shape.rowMajor_val_two, Shape.rowMajor_val_three]
  rfl

theorem line_apply {α : Type} {n : ℕ} (X : (⟨1, ![n]⟩ : Shape).Idx → α) (h : Shape.ShapeCasts ⟨1, ![n]⟩ ⟨2, ![1, n]⟩)
    (k : Fin n) : shapeCast ⟨2, ![1, n]⟩ X h (ix2 0 k) = X (ix1 k) := by
  refine shapeCast_apply _ _ _ _ ?_
  rw [Shape.rowMajor_val_two, Shape.rowMajor_val_one]
  show k.val = 0 * n + k.val
  omega

end Cert.Proof

end
-- ==== Proof.KernelEnd.lean ====
/- The kernel's results by its arguments: the reshapes before and after the call. -/
module

public import proofs.«01_k».proof.Proof.KernelValue
public import proofs.«01_k».proof.Proof.Rows
public import Idealize.ShloMosaic.Lib.StableHlo.ReadAt

@[expose] public section

set_option maxRecDepth 65536

noncomputable section

namespace Cert.KernelIdeal.Hand

open Idealize.ShloMosaic Idealize.ShloMosaic.TcCoe
open Idealize.SL Idealize.SL.Sem
open Idealize.ShloMosaic.Pipeline (Dat Cfg Window)
open Cert.KernelIdeal.Gen
open Cert.Proof

variable (m : (ℓ : Loc nD τ sig) → Buf (Elt Ideal) ℓ) (ρ : Dev nD → PrngReg)

/-! ## Before the call -/

theorem V_x (c : Dev nD) : V m c main_v0 = shapeCast S12288x2816 (m (c, Proc.devRef .tc main_arg0) : Vec Ideal S4x3072x2816 .bf16) shapeCasts_S4x3072x2816_S12288x2816 := by
  after_reads_simp
  rfl

theorem V_ws (c : Dev nD) : V m c main_v1 = shapeCast S1x30848 (m (c, Proc.devRef .tc main_arg2) : Vec Ideal S30848 .f32) shapeCasts_S30848_S1x30848 := by
  after_reads_simp
  rfl

theorem V_res (c : Dev nD) : V m c main_v2 = shapeCast S12288x30848 (m (c, Proc.devRef .tc main_arg3) : Vec Ideal S4x3072x30848 .bf16) shapeCasts_S4x3072x30848_S12288x30848 := by
  after_reads_simp
  rfl

theorem xRow_at (c : Dev nD) (b : Fin 4) (s : Fin 3072) :
    xRow m c (flat b s) = fun k => (m (c, Proc.devRef .tc main_arg0) : Vec Ideal S4x3072x2816 .bf16) (ix3 b s k) :=
  funext fun k => (congrFun (V_x m c) _).trans (flatten_apply _ _ b s k)

theorem wArr_at (c : Dev nD) (n : Fin 30848) (k : Fin 2816) : wArr m c (ix2 n k) = (m (c, Proc.devRef .tc main_arg1) : Vec Ideal S30848x2816 .fp8e4m3) (ix2 n k) :=
  congrFun (V_main_arg1 m c) _

theorem wsArr_at (c : Dev nD) (n : Fin 30848) : wsArr m c (ix2 0 n) = (m (c, Proc.devRef .tc main_arg2) : Vec Ideal S30848 .f32) (ix1 n) :=
  (congrFun (V_ws m c) _).trans (line_apply _ _ n)

theorem resArr_at (c : Dev nD) (b : Fin 4) (s : Fin 3072) (n : Fin 30848) :
    resArr m c (ix2 (flat b s) n) = (m (c, Proc.devRef .tc main_arg3) : Vec Ideal S4x3072x30848 .bf16) (ix3 b s n) :=
  (congrFun (V_res m c) _).trans (flatten_apply _ _ b s n)

/-! ## After the call -/

theorem tail_y (W : Valuation τ sig (Elt Ideal)) : StableHlo.after (List.flatten [hostOps1]) W (Proc.devRef .tc main_v4)
    = shapeCast S4x3072x30848 (W (Proc.devRef .tc main_v3_0) : Vec Ideal S12288x30848 .bf16) shapeCasts_S12288x30848_S4x3072x30848 := by
  after_reads_simp
  rfl

theorem tail_codes (W : Valuation τ sig (Elt Ideal)) : StableHlo.after (List.flatten [hostOps1]) W (Proc.devRef .tc main_v5)
    = shapeCast S4x3072x2816 (W (Proc.devRef .tc main_v3_1) : Vec Ideal S12288x2816 .fp8e4m3) shapeCasts_S12288x2816_S4x3072x2816 := by
  after_reads_simp
  rfl

theorem tail_scales (W : Valuation τ sig (Elt Ideal)) : StableHlo.after (List.flatten [hostOps1]) W (Proc.devRef .tc main_v6)
    = shapeCast S4x3072x1 (W (Proc.devRef .tc main_v3_2) : Vec Ideal S12288x1 .f32) shapeCasts_S12288x1_S4x3072x1 := by
  after_reads_simp
  rfl

/-- What the buffers hold after the call. -/
abbrev left (c : Dev nD) : Valuation τ sig (Elt Ideal) := Pipeline.withArrays spec0 c (V0 m c) fun w => (dats m 0 c).arrAt w cfg0.N

theorem left_4 (c : Dev nD) : left m c (Proc.devRef .tc main_v3_0) = (dats m 0 c).arrAt 4 cfg0.N :=
  Pipeline.withArrays_arr spec0 launch0.win.arr_inj c (V0 m c) (fun w => (dats m 0 c).arrAt w cfg0.N) 4
theorem left_5 (c : Dev nD) : left m c (Proc.devRef .tc main_v3_1) = (dats m 0 c).arrAt 5 cfg0.N :=
  Pipeline.withArrays_arr spec0 launch0.win.arr_inj c (V0 m c) (fun w => (dats m 0 c).arrAt w cfg0.N) 5
theorem left_6 (c : Dev nD) : left m c (Proc.devRef .tc main_v3_2) = (dats m 0 c).arrAt 6 cfg0.N :=
  Pipeline.withArrays_arr spec0 launch0.win.arr_inj c (V0 m c) (fun w => (dats m 0 c).arrAt w cfg0.N) 6

/-- A result buffer at the end. -/
abbrev result (c : Dev nD) (b : Ref sig .tc) : Buf (Elt Ideal) ((c : Thread nD τ).loc b) := Pipeline.afterTail₀ cfgs (dats m) 0 (V0 m) [hostOps1] c b

theorem y_result (c : Dev nD) (b : Fin 4) (s : Fin 3072) (n : Fin 30848) :
    (result m c main_v4 : Vec Ideal S4x3072x30848 .bf16) (ix3 b s n)
      = output (fun k => (m (c, Proc.devRef .tc main_arg0) : Vec Ideal S4x3072x2816 .bf16) (ix3 b s k))
          (fun k => (m (c, Proc.devRef .tc main_arg1) : Vec Ideal S30848x2816 .fp8e4m3) (ix2 n k))
          ((m (c, Proc.devRef .tc main_arg2) : Vec Ideal S30848 .f32) (ix1 n)) ((m (c, Proc.devRef .tc main_arg3) : Vec Ideal S4x3072x30848 .bf16) (ix3 b s n)) := by
  refine (congrFun (tail_y (left m c)) _).trans ((unflatten_apply _ _ b s n).trans ((congrFun (left_4 m c) _).trans ((y_value m c (flat b s) n).trans ?_)))
  rw [xRow_at, wsArr_at, resArr_at, funext fun k => wArr_at m c n k]

theorem codes_result (c : Dev nD) (b : Fin 4) (s : Fin 3072) (k : Fin 2816) :
    (result m c main_v5 : Vec Ideal S4x3072x2816 .fp8e4m3) (ix3 b s k)
      = code (fun k => (m (c, Proc.devRef .tc main_arg0) : Vec Ideal S4x3072x2816 .bf16) (ix3 b s k)) k := by
  refine (congrFun (tail_codes (left m c)) _).trans ((unflatten_apply _ _ b s k).trans ((congrFun (left_5 m c) _).trans ((codes_value m c (flat b s) k).trans ?_)))
  rw [xRow_at]

theorem scales_result (c : Dev nD) (b : Fin 4) (s : Fin 3072) :
    (result m c main_v6 : Vec Ideal S4x3072x1 .f32) (ix3 b s 0)
      = rowScale (fun k => (m (c, Proc.devRef .tc main_arg0) : Vec Ideal S4x3072x2816 .bf16) (ix3 b s k)) := by
  refine (congrFun (tail_scales (left m c)) _).trans ((unflatten_apply _ _ b s 0).trans ((congrFun (left_6 m c) _).trans ((scales_value m c (flat b s)).trans ?_)))
  rw [xRow_at]

/-! ## The run -/

theorem run_results : θ_run defs (onTc (τ := τ) (main (F := Ideal))) ⟨m, fun _ => 0, ρ⟩ fun r => ∀ c : Dev nD,
      r.2.mem ((c.tc : Thread nD τ).loc main_v4) = result m c main_v4
      ∧ r.2.mem ((c.tc : Thread nD τ).loc main_v5) = result m c main_v5
      ∧ r.2.mem ((c.tc : Thread nD τ).loc main_v6) = result m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).2 main_v4 (Pipeline.mem_restRefs_of main_v4 (by decide) (by decide)),
      (h c).2 main_v5 (Pipeline.mem_restRefs_of main_v5 (by decide) (by decide)),
      (h c).2 main_v6 (Pipeline.mem_restRefs_of main_v6 (by decide) (by decide)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ (isLocal m))

end Cert.KernelIdeal.Hand

end
-- ==== Proof.RefHost.lean ====
/- The reference's host operations: the scale of each row of activations and its inverse. -/
module

public import proofs.«01_k».proof.Proof.Linear
public import proofs.«01_k».proof.Proof.Gen.ReferenceIdeal.Frame
public import Idealize.ShloMosaic.Lib.Pointwise
public import Idealize.ShloMosaic.Lib.StableHlo.ReadAt

@[expose] public section

set_option maxRecDepth 65536

noncomputable section

namespace Cert.ReferenceIdeal.Hand

open Idealize.ShloMosaic Idealize.ShloMosaic.TcCoe
open Idealize.SL Idealize.SL.Sem
open Cert.ReferenceIdeal.Gen
open Cert.Proof

/-! ## The host operations as functions of the activations -/

/-- The greatest magnitude of each row, -/
def greatestVec (x : FVec Ideal S4x3072x2816 .bf16) : FVec Ideal S4x3072x1 .f32 :=
  broadcastInDim S4x3072x1 ![0, 1] bcast_S4x3072_S4x3072x1_0_1
    (Host.reduce FloatOps.maximumf (Host.absf (extf .f32 x bitsLt_bf16_f32)) (constant S_ .f32 0xFF800000#32) reducesTo_S4x3072x2816_S4x3072_d2 h_S_ : FVec Ideal S4x3072 .f32)

/-- its ratio to the format's greatest value, -/
def ratioVec (a : FVec Ideal S4x3072x1 .f32) : FVec Ideal S4x3072x1 .f32 :=
  mulf a (broadcastInDim S4x3072x1 ![] bcast_S_S4x3072x1 (constant (F := Ideal) S_ .f32 0x3B124925#32))

/-- the powers of two from 2^-125 to 2^127, -/
def powersVec : FVec Ideal S253 .f32 := fun i => FloatOps.ofBits .f32 (lit0 (S253.rowMajor i))

/-- which of them lie above the ratio, -/
def belowVec (powers : FVec Ideal S253 .f32) (z : FVec Ideal S4x3072x1 .f32) : IVec S4x3072x253 1 :=
  cmpf .olt (broadcastInDim S4x3072x253 ![0, 1, 2] bcast_S4x3072x1_S4x3072x253_0_1_2 z)
    (broadcastInDim S4x3072x253 ![0, 1, 2] bcast_S1x1x253_S4x3072x253_0_1_2 (broadcastInDim S1x1x253 ![2] bcast_S253_S1x1x253_2 powers))

/-- those, and infinity for the others, -/
def aboveVec (powers : FVec Ideal S253 .f32) (c : IVec S4x3072x253 1) : FVec Ideal S4x3072x253 .f32 :=
  select c (broadcastInDim S4x3072x253 ![2] bcast_S253_S4x3072x253_2 powers)
    (broadcastInDim S4x3072x253 ![] bcast_S_S4x3072x253 (constant (F := Ideal) S_ .f32 0x7F800000#32))

/-- the least of them, -/
def leastVec (p : FVec Ideal S4x3072x253 .f32) : FVec Ideal S4x3072x1 .f32 :=
  broadcastInDim S4x3072x1 ![0, 1] bcast_S4x3072_S4x3072x1_0_1
    (Host.reduce FloatOps.minimumf p (constant S_ .f32 0x7F800000#32) reducesTo_S4x3072x253_S4x3072_d2 h_S_ : FVec Ideal S4x3072 .f32)

/-- the scale, which is 1 where the ratio is no normal float, -/
def selectVec (z least : FVec Ideal S4x3072x1 .f32) : FVec Ideal S4x3072x1 .f32 :=
  select (andi (cmpf .oge z (broadcastInDim S4x3072x1 ![] bcast_S_S4x3072x1 (constant (F := Ideal) S_ .f32 0x00800000#32)))
      (cmpf .olt z (broadcastInDim S4x3072x1 ![] bcast_S_S4x3072x1 (constant (F := Ideal) S_ .f32 0x7F800000#32))))
    least (broadcastInDim S4x3072x1 ![] bcast_S_S4x3072x1 (constant (F := Ideal) S_ .f32 0x3F800000#32))

/-- as one function of the activations, -/
def scaleVec (x : FVec Ideal S4x3072x2816 .bf16) : FVec Ideal S4x3072x1 .f32 :=
  selectVec (ratioVec (greatestVec x)) (leastVec (aboveVec powersVec (belowVec powersVec (ratioVec (greatestVec x)))))

/-- and its inverse. -/
def inverseVec (s : FVec Ideal S4x3072x1 .f32) : FVec Ideal S4x3072x1 .f32 :=
  select (cmpf .ogt s (broadcastInDim S4x3072x1 ![] bcast_S_S4x3072x1 (constant (F := Ideal) S_ .f32 0x7E800000#32)))
    (broadcastInDim S4x3072x1 ![] bcast_S_S4x3072x1 (constant (F := Ideal) S_ .f32 0x00000000#32))
    (Host.divf (broadcastInDim S4x3072x1 ![] bcast_S_S4x3072x1 (constant (F := Ideal) S_ .f32 0x3F800000#32)) s)

/-! ## Each at an index -/

theorem greatestVec_apply (x : FVec Ideal S4x3072x2816 .bf16) (b : Fin 4) (s : Fin 3072) :
    greatestVec x (ix3 b s 0) = greatest fun k => x (ix3 b s k) := by
  unfold greatest
  pointwise [greatestVec]

theorem ratioVec_apply (a : FVec Ideal S4x3072x1 .f32) (b : Fin 4) (s : Fin 3072) :
    ratioVec a (ix3 b s 0) = a (ix3 b s 0) * Ideal.ofBits .f32 0x3B124925#32 := by
  pointwise [ratioVec]

theorem ratioVec_greatestVec (x : FVec Ideal S4x3072x2816 .bf16) (b : Fin 4) (s : Fin 3072) :
    ratioVec (greatestVec x) (ix3 b s 0) = ratio fun k => x (ix3 b s k) :=
  (ratioVec_apply (greatestVec x) b s).trans (congrArg (fun z : EReal => z * Ideal.ofBits .f32 0x3B124925#32) (greatestVec_apply x b s))

theorem lit_eq : ∀ k : Fin 253, lit0 k = BitVec.ofNat 32 (k.val + 2) <<< 23 := by decide +kernel

theorem powersVec_apply (k : Fin 253) : powersVec (ix1 k) = Scale.power (k.val + 2) := by
  have e : S253.rowMajor (ix1 k) = k := Fin.ext (Shape.rowMajor_val_one _)
  show Ideal.ofBits .f32 (lit0 (S253.rowMajor (ix1 k))) = _
  rw [e, lit_eq]; rfl

theorem belowVec_apply (powers : FVec Ideal S253 .f32) (z : FVec Ideal S4x3072x1 .f32) (b : Fin 4) (s : Fin 3072) (k : Fin 253) :
    belowVec powers z (ix3 b s k) = BitVec.ofBool (decide (z (ix3 b s 0) < powers (ix1 k))) := by
  pointwise [belowVec]

theorem aboveVec_apply (powers : FVec Ideal S253 .f32) (c : IVec S4x3072x253 1) (b : Fin 4) (s : Fin 3072) (k : Fin 253) :
    aboveVec powers c (ix3 b s k) = if c (ix3 b s k) = 1#1 then powers (ix1 k) else Ideal.ofBits .f32 0x7F800000#32 := by
  pointwise [aboveVec]
  rfl

theorem leastVec_apply (p : FVec Ideal S4x3072x253 .f32) (b : Fin 4) (s : Fin 3072) :
    leastVec p (ix3 b s 0) = Finset.fold min (Ideal.ofBits .f32 0x7F800000#32) (fun k : Fin 253 => p (ix3 b s k)) Finset.univ := by
  pointwise [leastVec]

theorem infinity : Ideal.ofBits .f32 0x7F800000#32 = ⊤ := Scale.power_top

theorem select_and {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

theorem selectVec_apply (z least : FVec Ideal S4x3072x1 .f32) (b : Fin 4) (s : Fin 3072) :
    selectVec z least (ix3 b s 0) = if Ideal.ofBits .f32 0x00800000#32 ≤ z (ix3 b s 0) ∧ z (ix3 b s 0) < Ideal.ofBits .f32 0x7F800000#32 then least (ix3 b s 0) else 1 := by
  pointwise [selectVec]
  exact select_and _ _ _ _

theorem inverseVec_apply (x : FVec Ideal S4x3072x1 .f32) (b : Fin 4) (s : Fin 3072) :
    inverseVec x (ix3 b s 0) = if Ideal.ofBits .f32 0x7E800000#32 < x (ix3 b s 0) then 0 else Ideal.div 1 (x (ix3 b s 0)) := by
  pointwise [inverseVec]

/-- The scale of row `s` of batch `b`. -/
theorem scaleVec_apply (x : FVec Ideal S4x3072x2816 .bf16) (b : Fin 4) (s : Fin 3072) :
    scaleVec x (ix3 b s 0) = rowScale fun k => x (ix3 b s k) := by
  unfold scaleVec
  refine (selectVec_apply _ _ b s).trans ?_
  rw [ratioVec_greatestVec, leastVec_apply]
  have e : (fun k : Fin 253 => aboveVec powersVec (belowVec powersVec (ratioVec (greatestVec x))) (ix3 b s k))
      = fun k : Fin 253 => if (ratio fun k => x (ix3 b s k)) < Scale.power (k.val + 2) then Scale.power (k.val + 2) else ⊤ := by
    funext k
    rw [aboveVec_apply, belowVec_apply, ratioVec_greatestVec, powersVec_apply, infinity]
    by_cases h : (ratio fun k => x (ix3 b s k)) < Scale.power (k.val + 2)
    · rw [if_pos h, decide_eq_true h]; exact if_pos rfl
    · rw [if_neg h, decide_eq_false h]; exact if_neg (by decide)
  rw [e, infinity]
  rfl

/-- Its inverse. -/
theorem inverseVec_scaleVec (x : FVec Ideal S4x3072x2816 .bf16) (b : Fin 4) (s : Fin 3072) :
    inverseVec (scaleVec x) (ix3 b s 0) = Scale.inverse (rowScale fun k => x (ix3 b s k)) := by
  refine (inverseVec_apply _ b s).trans ?_
  rw [scaleVec_apply]
  rfl

/-! ## What the host operations leave in the buffers -/

variable (m : (ℓ : Loc nD τ sig) → Buf (Elt Ideal) ℓ)

theorem V_scale (c : Dev nD) : V m c main_v18 = scaleVec (m (c, Proc.devRef .tc main_arg0)) := by
  after_reads_simp
  simp -implicitDefEqProofs only [StableHlo.TRef.toBuf, StableHlo.TRef.ofBuf, cast_cast, cast_eq]
  rfl

theorem V_inverseCol (c : Dev nD) : V m c main_v25 = shapeCast S12288x1 (inverseVec (scaleVec (m (c, Proc.devRef .tc main_arg0)))) shapeCasts_S4x3072x1_S12288x1 := by
  after_reads_simp
  simp -implicitDefEqProofs only [StableHlo.TRef.toBuf, StableHlo.TRef.ofBuf, cast_cast, cast_eq]
  rfl

theorem V_scaleCol (c : Dev nD) : V m c main_v26 = shapeCast S12288x1 (scaleVec (m (c, Proc.devRef .tc main_arg0))) shapeCasts_S4x3072x1_S12288x1 := by
  after_reads_simp
  simp -implicitDefEqProofs only [StableHlo.TRef.toBuf, StableHlo.TRef.ofBuf, cast_cast, cast_eq]
  rfl

theorem V_x (c : Dev nD) : V m c main_v24 = shapeCast S12288x2816 (m (c, Proc.devRef .tc main_arg0) : FVec Ideal S4x3072x2816 .bf16) shapeCasts_S4x3072x2816_S12288x2816 := by
  after_reads_simp
  rfl

theorem V_ws (c : Dev nD) : V m c main_v27 = shapeCast S1x30848 (m (c, Proc.devRef .tc main_arg2) : FVec Ideal S30848 .f32) shapeCasts_S30848_S1x30848 := by
  after_reads_simp
  rfl

theorem V_res (c : Dev nD) : V m c main_v28 = shapeCast S12288x30848 (m (c, Proc.devRef .tc main_arg3) : FVec Ideal S4x3072x30848 .bf16) shapeCasts_S4x3072x30848_S12288x30848 := by
  after_reads_simp
  rfl

end Cert.ReferenceIdeal.Hand

end
-- ==== Proof.RefValue.lean ====
/- What the reference leaves in its three outputs, over the extended reals. -/
module

public import proofs.«01_k».proof.Proof.RefHost
public import proofs.«01_k».proof.Proof.Rows
public import Idealize.ShloMosaic.Lib.Pipeline.Value

@[expose] public section

set_option maxRecDepth 65536

noncomputable section

namespace Cert.ReferenceIdeal.Hand

open Idealize.ShloMosaic Idealize.ShloMosaic.TcCoe
open Idealize.SL Idealize.SL.Sem
open Idealize.ShloMosaic.Pipeline (Dat)
open Cert.ReferenceIdeal.Gen
open Cert.Proof

/-! ## The body's values at an index -/

theorem pay1_apply (x : Vec Ideal S12288x2816 .bf16) (i : Vec Ideal S12288x1 .f32) (r : Fin 12288) (k : Fin 2816) :
    k0_pay1 (F := Ideal) x i (ix2 r k) = min (Ideal.ofBits .f32 0x43E00000#32) (max (Ideal.ofBits .f32 0xC3E00000#32) (x (ix2 r k) * i (ix2 r 0))) := by
  pointwise [k0_pay1]

theorem pay3_apply (x : Vec Ideal S12288x2816 .bf16) (i : Vec Ideal S12288x1 .f32) (b : Fin 4) (s : Fin 3072) (k : Fin 2816) :
    k0_pay3 (F := Ideal) x i (ix3 b s k) = k0_pay1 (F := Ideal) x i (ix2 (flat b s) k) :=
  unflatten_apply (k0_pay1 (F := Ideal) x i) shapeCasts_S12288x2816_S4x3072x2816 b s k

/-- The product, scaled, plus the residual, before its rows are split by batch. -/
def linear {F : FTy → Type} [FloatOps F] (c : Vec F S12288x2816 .fp8e4m3) (w : Vec F S30848x2816 .fp8e4m3) (a : Vec F S12288x1 .f32) (ws : Vec F S1x30848 .f32)
    (res : Vec F S12288x30848 .bf16) : FVec F S12288x30848 .bf16 :=
  truncf .bf16 (addf (mulf (mulf (matmul dot_S12288x2816_S30848x2816_S12288x30848_1_1_0_0_n_n none c w (constant S12288x30848 .f32 0x00000000#32))
      (broadcastTo S12288x30848 (shapeCast S12288x1 a shapeCasts_S12288x1_S12288x1) broadcasts_S12288x1_S12288x30848))
      (broadcastTo S12288x30848 (shapeCast S1x30848 ws shapeCasts_S1x30848_S1x30848) broadcasts_S1x30848_S12288x30848))
    (extf .f32 (shapeCast S12288x30848 res shapeCasts_S12288x30848_S12288x30848) bitsLt_bf16_f32)) bitsLt_bf16_f32

theorem linear_apply (c : Vec Ideal S12288x2816 .fp8e4m3) (w : Vec Ideal S30848x2816 .fp8e4m3) (a : Vec Ideal S12288x1 .f32) (ws : Vec Ideal S1x30848 .f32)
    (res : Vec Ideal S12288x30848 .bf16) (r : Fin 12288) (n : Fin 30848) :
    linear (F := Ideal) c w a ws res (ix2 r n) = (∑ k : Fin 2816, c (ix2 r k) * w (ix2 n k)) * a (ix2 r 0) * ws (ix2 0 n) + res (ix2 r n) := by
  pointwise [linear]

theorem pay2_apply (x : Vec Ideal S12288x2816 .bf16) (i : Vec Ideal S12288x1 .f32) (w : Vec Ideal S30848x2816 .fp8e4m3) (a : Vec Ideal S12288x1 .f32)
    (ws : Vec Ideal S1x30848 .f32) (res : Vec Ideal S12288x30848 .bf16) (b : Fin 4) (s : Fin 3072) (n : Fin 30848) :
    k0_pay2 (F := Ideal) x i w a ws res (ix3 b s n) = linear (F := Ideal) (k0_pay1 (F := Ideal) x i) w a ws res (ix2 (flat b s) n) :=
  unflatten_apply (linear (F := Ideal) (k0_pay1 (F := Ideal) x i) w a ws res) shapeCasts_S12288x30848_S4x3072x30848 b s n

/-! ## The one point's blocks are the arrays -/

variable (m : (ℓ : Loc nD τ sig) → Buf (Elt Ideal) ℓ) (ρ : Dev nD → PrngReg)

/-- The grid's one point. -/
abbrev pt : Fin cfg0.N := ⟨0, by decide⟩

theorem zero2 : (![0, 0] : Fin 2 → ℕ) = fun _ => 0 := by decide
theorem zero3 : (![0, 0, 0] : Fin 3 → ℕ) = fun _ => 0 := by decide

theorem block_x (c : Dev nD) (r : Fin 12288) (k : Fin 2816) :
    (iblk m c 0 pt : Vec Ideal S12288x2816 .bf16) (ix2 r k) = (V m c main_v24 : Vec Ideal S12288x2816 .bf16) (ix2 r k) := by
  refine congrArg (V m c main_v24 : Vec Ideal S12288x2816 .bf16) (funext fun a => Fin.ext ?_)
  match a with
  | ⟨0, _⟩ => show 0 * 12288 + 1 * r.val = r.val; omega
  | ⟨1, _⟩ => show 0 * 2816 + 1 * k.val = k.val; omega

theorem read_inv (A : Vec Ideal S12288x1 .f32) (r : Fin 12288) :
    ((cfg0.win 1).blk pt).view.read (Elt Ideal) A (ix2 r 0 : S12288x1.Idx) = A (ix2 r 0) := by
  refine congrArg A (funext fun a => Fin.ext ?_)
  match a with
  | ⟨0, _⟩ => show 0 * 12288 + 1 * r.val = r.val; omega
  | ⟨1, _⟩ => show 0 * 1 + 1 * 0 = 0; omega

theorem block_inv (c : Dev nD) (r : Fin 12288) :
    (iblk m c 1 pt : Vec Ideal S12288x1 .f32) (ix2 r 0) = (V m c main_v25 : Vec Ideal S12288x1 .f32) (ix2 r 0) :=
  read_inv (V m c main_v25) r

theorem read_scale (A : Vec Ideal S12288x1 .f32) (r : Fin 12288) :
    ((cfg0.win 2).blk pt).view.read (Elt Ideal) A (ix2 r 0 : S12288x1.Idx) = A (ix2 r 0) := by
  refine congrArg A (funext fun a => Fin.ext ?_)
  match a with
  | ⟨0, _⟩ => show 0 * 12288 + 1 * r.val = r.val; omega
  | ⟨1, _⟩ => show 0 * 1 + 1 * 0 = 0; omega

theorem block_scale (c : Dev nD) (r : Fin 12288) :
    (iblk m c 2 pt : Vec Ideal S12288x1 .f32) (ix2 r 0) = (V m c main_v26 : Vec Ideal S12288x1 .f32) (ix2 r 0) :=
  read_scale (V m c main_v26) r

theorem block_w (c : Dev nD) (n : Fin 30848) (k : Fin 2816) :
    (iblk m c 3 pt : Vec Ideal S30848x2816 .fp8e4m3) (ix2 n k) = (V m c main_arg1 : Vec Ideal S30848x2816 .fp8e4m3) (ix2 n k) := by
  refine congrArg (V m c main_arg1 : Vec Ideal S30848x2816 .fp8e4m3) (funext fun a => Fin.ext ?_)
  match a with
  | ⟨0, _⟩ => show 0 * 30848 + 1 * n.val = n.val; omega
  | ⟨1, _⟩ => show 0 * 2816 + 1 * k.val = k.val; omega

theorem block_ws (c : Dev nD) (n : Fin 30848) :
    (iblk m c 4 pt : Vec Ideal S1x30848 .f32) (ix2 0 n) = (V m c main_v27 : Vec Ideal S1x30848 .f32) (ix2 0 n) := by
  refine congrArg (V m c main_v27 : Vec Ideal S1x30848 .f32) (funext fun a => Fin.ext ?_)
  match a with
  | ⟨0, _⟩ => rfl
  | ⟨1, _⟩ => show 0 * 30848 + 1 * n.val = n.val; omega

theorem block_res (c : Dev nD) (r : Fin 12288) (n : Fin 30848) :
    (iblk m c 5 pt : Vec Ideal S12288x30848 .bf16) (ix2 r n) = (V m c main_v28 : Vec Ideal S12288x30848 .bf16) (ix2 r n) := by
  refine congrArg (V m c main_v28 : Vec Ideal S12288x30848 .bf16) (funext fun a => Fin.ext ?_)
  match a with
  | ⟨0, _⟩ => show 0 * 12288 + 1 * r.val = r.val; omega
  | ⟨1, _⟩ => show 0 * 30848 + 1 * n.val = n.val; omega

/-! ## What they hold, by the arguments -/

/-- Row `s` of batch `b` of the activations. -/
def xRow (c : Dev nD) (b : Fin 4) (s : Fin 3072) : Fin 2816 → EReal := fun k => (m (c, Proc.devRef .tc main_arg0) : Vec Ideal S4x3072x2816 .bf16) (ix3 b s k)

theorem x_at (c : Dev nD) (b : Fin 4) (s : Fin 3072) (k : Fin 2816) : (iblk m c 0 pt : Vec Ideal S12288x2816 .bf16) (ix2 (flat b s) k) = xRow m c b s k :=
  (block_x m c _ _).trans ((congrFun (V_x m c) _).trans (flatten_apply _ _ b s k))

theorem inv_at (c : Dev nD) (b : Fin 4) (s : Fin 3072) :
    (iblk m c 1 pt : Vec Ideal S12288x1 .f32) (ix2 (flat b s) 0) = Scale.inverse (rowScale (xRow m c b s)) :=
  (block_inv m c _).trans ((congrFun (V_inverseCol m c) _).trans ((flatten_apply _ _ b s 0).trans (inverseVec_scaleVec _ b s)))

theorem scale_at (c : Dev nD) (b : Fin 4) (s : Fin 3072) :
    (iblk m c 2 pt : Vec Ideal S12288x1 .f32) (ix2 (flat b s) 0) = rowScale (xRow m c b s) :=
  (block_scale m c _).trans ((congrFun (V_scaleCol m c) _).trans ((flatten_apply _ _ b s 0).trans (scaleVec_apply _ b s)))

theorem w_at (c : Dev nD) (n : Fin 30848) (k : Fin 2816) :
    (iblk m c 3 pt : Vec Ideal S30848x2816 .fp8e4m3) (ix2 n k) = (m (c, Proc.devRef .tc main_arg1) : Vec Ideal S30848x2816 .fp8e4m3) (ix2 n k) :=
  (block_w m c _ _).trans (congrFun (V_main_arg1 m c) _)

theorem ws_at (c : Dev nD) (n : Fin 30848) :
    (iblk m c 4 pt : Vec Ideal S1x30848 .f32) (ix2 0 n) = (m (c, Proc.devRef .tc main_arg2) : Vec Ideal S30848 .f32) (ix1 n) :=
  (block_ws m c _).trans ((congrFun (V_ws m c) _).trans (line_apply _ _ n))

theorem res_at (c : Dev nD) (b : Fin 4) (s : Fin 3072) (n : Fin 30848) :
    (iblk m c 5 pt : Vec Ideal S12288x30848 .bf16) (ix2 (flat b s) n) = (m (c, Proc.devRef .tc main_arg3) : Vec Ideal S4x3072x30848 .bf16) (ix3 b s n) :=
  (block_res m c _ _).trans ((congrFun (V_res m c) _).trans (flatten_apply _ _ b s n))

/-! ## The outputs -/

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => absurd ((by decide : ∀ t t' : Fin grid0.N, t = t') t t') hne

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => absurd ((by decide : ∀ t t' : Fin grid0.N, t = t') t t') hne

theorem y_block (c : Dev nD) (b : Fin 4) (s : Fin 3072) (n : Fin 30848) :
    ((dats m 0 c).arrAt 6 cfg0.N : Vec Ideal S4x3072x30848 .bf16) (ix3 b s n)
      = (out0_6 (F := Ideal) (iblk m c 0 pt) (iblk m c 1 pt) (iblk m c 2 pt) (iblk m c 3 pt) (iblk m c 4 pt) (iblk m c 5 pt) : Vec Ideal S4x3072x30848 .bf16) (ix3 b s n) := by
  have h := congrFun ((dats m 0 c).read_blk_arrAt_eq_flushed 6 disjoint6 cfg0.N pt pt.isLt (by decide)) (ix3 b s n : S4x3072x30848.Idx)
  have e : (dats m 0 c).flushed 6 pt = (cfg0.win 6).cut (grid0.coords pt) ((dats m 0 c).after 6 pt) := rfl
  rw [e, after0_6] at h
  refine Eq.trans ?_ h
  refine congrArg ((dats m 0 c).arrAt 6 cfg0.N : Vec Ideal S4x3072x30848 .bf16) (funext fun a => Fin.ext ?_)
  match a with
  | ⟨0, _⟩ => show b.val = 0 * 4 + 1 * b.val; omega
  | ⟨1, _⟩ => show s.val = 0 * 3072 + 1 * s.val; omega
  | ⟨2, _⟩ => show n.val = 0 * 30848 + 1 * n.val; omega

theorem codes_block (c : Dev nD) (b : Fin 4) (s : Fin 3072) (k : Fin 2816) :
    ((dats m 0 c).arrAt 7 cfg0.N : Vec Ideal S4x3072x2816 .fp8e4m3) (ix3 b s k)
      = (out0_7 (F := Ideal) (iblk m c 0 pt) (iblk m c 1 pt) (iblk m c 2 pt) (iblk m c 3 pt) (iblk m c 4 pt) (iblk m c 5 pt) : Vec Ideal S4x3072x2816 .fp8e4m3) (ix3 b s k) := by
  have h := congrFun ((dats m 0 c).read_blk_arrAt_eq_flushed 7 disjoint7 cfg0.N pt pt.isLt (by decide)) (ix3 b s k : S4x3072x2816.Idx)
  have e : (dats m 0 c).flushed 7 pt = (cfg0.win 7).cut (grid0.coords pt) ((dats m 0 c).after 7 pt) := rfl
  rw [e, after0_7] at h
  refine Eq.trans ?_ h
  refine congrArg ((dats m 0 c).arrAt 7 cfg0.N : Vec Ideal S4x3072x2816 .fp8e4m3) (funext fun a => Fin.ext ?_)
  match a with
  | ⟨0, _⟩ => show b.val = 0 * 4 + 1 * b.val; omega
  | ⟨1, _⟩ => show s.val = 0 * 3072 + 1 * s.val; omega
  | ⟨2, _⟩ => show k.val = 0 * 2816 + 1 * k.val; omega

theorem out6_eq (x : Vec Ideal S12288x2816 .bf16) (i : Vec Ideal S12288x1 .f32) (a : Vec Ideal S12288x1 .f32) (w : Vec Ideal S30848x2816 .fp8e4m3)
    (ws : Vec Ideal S1x30848 .f32) (res : Vec Ideal S12288x30848 .bf16) : out0_6 (F := Ideal) x i a w ws res = k0_pay2 (F := Ideal) x i w a ws res := by
  unfold out0_6
  rw [View.canon_unit_zero zero3, View.ld_unit_zero zero2, View.ld_unit_zero zero2, View.ld_unit_zero zero2, View.ld_unit_zero zero2, View.ld_unit_zero zero2, View.ld_unit_zero zero2]

theorem out7_eq (x : Vec Ideal S12288x2816 .bf16) (i : Vec Ideal S12288x1 .f32) (a : Vec Ideal S12288x1 .f32) (w : Vec Ideal S30848x2816 .fp8e4m3)
    (ws : Vec Ideal S1x30848 .f32) (res : Vec Ideal S12288x30848 .bf16) : out0_7 (F := Ideal) x i a w ws res = k0_pay3 (F := Ideal) x i := by
  unfold out0_7
  rw [View.canon_unit_zero zero3, View.ld_unit_zero zero2, View.ld_unit_zero zero2]

theorem code_at (c : Dev nD) (b : Fin 4) (s : Fin 3072) (k : Fin 2816) :
    k0_pay1 (F := Ideal) (iblk m c 0 pt : Vec Ideal S12288x2816 .bf16) (iblk m c 1 pt : Vec Ideal S12288x1 .f32) (ix2 (flat b s) k) = code (xRow m c b s) k := by
  rw [pay1_apply, x_at, inv_at, code]

/-- The codes. -/
theorem codes_value (c : Dev nD) (b : Fin 4) (s : Fin 3072) (k : Fin 2816) :
    ((dats m 0 c).arrAt 7 cfg0.N : Vec Ideal S4x3072x2816 .fp8e4m3) (ix3 b s k) = code (xRow m c b s) k :=
  (codes_block m c b s k).trans ((congrFun (out7_eq _ _ _ _ _ _) _).trans ((pay3_apply _ _ b s k).trans (code_at m c b s k)))

/-- The dequantised product with the residual. -/
theorem y_value (c : Dev nD) (b : Fin 4) (s : Fin 3072) (n : Fin 30848) :
    ((dats m 0 c).arrAt 6 cfg0.N : Vec Ideal S4x3072x30848 .bf16) (ix3 b s n)
      = output (xRow m c b s) (fun k => (m (c, Proc.devRef .tc main_arg1) : Vec Ideal S30848x2816 .fp8e4m3) (ix2 n k))
          ((m (c, Proc.devRef .tc main_arg2) : Vec Ideal S30848 .f32) (ix1 n)) ((m (c, Proc.devRef .tc main_arg3) : Vec Ideal S4x3072x30848 .bf16) (ix3 b s n)) := by
  refine (y_block m c b s n).trans ((congrFun (out6_eq _ _ _ _ _ _) _).trans ((pay2_apply _ _ _ _ _ _ b s n).trans ((linear_apply _ _ _ _ _ _ n).trans ?_)))
  rw [scale_at, ws_at, res_at, Finset.sum_congr rfl fun k _ => by rw [code_at, w_at]]
  rfl

/-- The scales. -/
theorem scales_value (c : Dev nD) (b : Fin 4) (s : Fin 3072) :
    (V m c main_v18 : Vec Ideal S4x3072x1 .f32) (ix3 b s 0) = rowScale (xRow m c b s) :=
  (congrFun (V_scale m c) _).trans (scaleVec_apply _ b s)

end Cert.ReferenceIdeal.Hand

end
-- ==== Proof.Algebraic.lean ====
/- Both programs compute the same three results. -/
module

public import proofs.«01_k».proof.Proof.KernelEnd
public import proofs.«01_k».proof.Proof.RefValue
public import proofs.«01_k».proof.Defs

@[expose] public section

set_option maxRecDepth 65536

noncomputable section

namespace Cert.ReferenceIdeal.Hand

open Idealize.ShloMosaic Idealize.ShloMosaic.TcCoe
open Idealize.SL Idealize.SL.Sem
open Cert.ReferenceIdeal.Gen

variable (m : (ℓ : Loc nD τ sig) → Buf (Elt Ideal) ℓ) (ρ : Dev nD → PrngReg)

/-- The reference runs, leaving its three results and its arguments as they were. -/
theorem run_results : θ_run defs (onTc (τ := τ) (main (F := Ideal))) ⟨m, fun _ => 0, ρ⟩ fun r => ∀ c : Dev nD,
      r.2.mem ((c.tc : Thread nD τ).loc main_v29_0) = (dats m 0 c).arrAt 6 cfg0.N
      ∧ r.2.mem ((c.tc : Thread nD τ).loc main_v29_1) = (dats m 0 c).arrAt 7 cfg0.N
      ∧ r.2.mem ((c.tc : Thread nD τ).loc main_v18) = V m c main_v18
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1 6, (h c).1 7,
      (h c).2 main_v18 (Pipeline.mem_restRefs_of main_v18 (by decide) (by decide)),
      ((h c).2 main_arg0 (Pipeline.mem_restRefs_of main_arg0 (by decide) (by decide))).trans (V_main_arg0 m c),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (Gen.run_main m ρ)

end Cert.ReferenceIdeal.Hand

namespace Cert.Proof

open Idealize.ShloMosaic Idealize.ShloMosaic.TcCoe
open Idealize.SL Idealize.SL.Sem

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

/-- The reference's `y` is the kernel's. -/
theorem y_eq
    (h0 : m' ((c.tc : Thread _ ReferenceIdeal.τ).loc ReferenceIdeal.main_arg0) = m ((c.tc : Thread _ KernelIdeal.τ).loc KernelIdeal.main_arg0))
    (h1 : m' ((c.tc : Thread _ ReferenceIdeal.τ).loc ReferenceIdeal.main_arg1) = m ((c.tc : Thread _ KernelIdeal.τ).loc KernelIdeal.main_arg1))
    (h2 : m' ((c.tc : Thread _ ReferenceIdeal.τ).loc ReferenceIdeal.main_arg2) = m ((c.tc : Thread _ KernelIdeal.τ).loc KernelIdeal.main_arg2))
    (h3 : m' ((c.tc : Thread _ ReferenceIdeal.τ).loc ReferenceIdeal.main_arg3) = m ((c.tc : Thread _ KernelIdeal.τ).loc KernelIdeal.main_arg3)) :
    ((ReferenceIdeal.Gen.dats m' 0 c).arrAt 6 ReferenceIdeal.cfg0.N : Vec Ideal ReferenceIdeal.S4x3072x30848 .bf16)
      = KernelIdeal.Hand.result m c KernelIdeal.main_v4 := by
  funext i
  obtain ⟨b, s, n, rfl⟩ : ∃ b s n, i = ix3 b s n := ⟨i 0, i 1, i 2, (ix3_eta i).symm⟩
  refine (ReferenceIdeal.Hand.y_value m' c b s n).trans (Eq.trans ?_ (KernelIdeal.Hand.y_result m c b s n).symm)
  have e0 := fun k => congrFun h0 (ix3 b s k)
  have e1 := fun k => congrFun h1 (ix2 n k)
  have e2 := congrFun h2 (ix1 n)
  have e3 := congrFun h3 (ix3 b s n)
  exact congr (congr (congr (congrArg _ (funext e0)) (funext e1)) e2) e3

/-- The reference's codes are the kernel's. -/
theorem codes_eq
    (h0 : m' ((c.tc : Thread _ ReferenceIdeal.τ).loc ReferenceIdeal.main_arg0) = m ((c.tc : Thread _ KernelIdeal.τ).loc KernelIdeal.main_arg0)) :
    ((ReferenceIdeal.Gen.dats m' 0 c).arrAt 7 ReferenceIdeal.cfg0.N : Vec Ideal ReferenceIdeal.S4x3072x2816 .fp8e4m3)
      = KernelIdeal.Hand.result m c KernelIdeal.main_v5 := by
  funext i
  obtain ⟨b, s, k, rfl⟩ : ∃ b s k, i = ix3 b s k := ⟨i 0, i 1, i 2, (ix3_eta i).symm⟩
  refine (ReferenceIdeal.Hand.codes_value m' c b s k).trans (Eq.trans ?_ (KernelIdeal.Hand.codes_result m c b s k).symm)
  have e0 := fun k => congrFun h0 (ix3 b s k)
  exact congrFun (congrArg _ (funext e0)) k

/-- The reference's row scales are the kernel's. -/
theorem scales_eq
    (h0 : m' ((c.tc : Thread _ ReferenceIdeal.τ).loc ReferenceIdeal.main_arg0) = m ((c.tc : Thread _ KernelIdeal.τ).loc KernelIdeal.main_arg0)) :
    (ReferenceIdeal.Gen.V m' c ReferenceIdeal.main_v18 : Vec Ideal ReferenceIdeal.S4x3072x1 .f32)
      = KernelIdeal.Hand.result m c KernelIdeal.main_v6 := by
  funext i
  obtain ⟨b, s, z, rfl⟩ : ∃ b s z, i = ix3 b s z := ⟨i 0, i 1, i 2, (ix3_eta i).symm⟩
  obtain rfl : z = 0 := Subsingleton.elim (α := Fin 1) _ _
  refine (ReferenceIdeal.Hand.scales_value m' c b s).trans (Eq.trans ?_ (KernelIdeal.Hand.scales_result m c b s).symm)
  have e0 := fun k => congrFun h0 (ix3 b s k)
  exact congrArg _ (funext e0)

end

theorem algebraic : algebraic_KernelIdeal_ReferenceIdeal := by
  intro m g m' g' _ hargs
  refine ⟨fun c => KernelIdeal.Hand.result m c KernelIdeal.main_v4, fun c => KernelIdeal.Hand.result m c KernelIdeal.main_v5,
    fun c => KernelIdeal.Hand.result m c KernelIdeal.main_v6, KernelIdeal.Hand.run_results m g, ?_⟩
  refine (θ_run _ _ _).mono (fun _ h c => ?_) (ReferenceIdeal.Hand.run_results m' g')
  obtain ⟨r0, r1, r2, rest⟩ := h c
  obtain ⟨h0, h1, h2, h3⟩ := hargs c
  exact ⟨r0.trans (y_eq m m' c h0 h1 h2 h3), r1.trans (codes_eq m m' c h0), r2.trans (scales_eq m m' c h0), rest⟩

end Cert.Proof

end
-- ==== Proof.lean ====
module

public import proofs.«01_k».proof.Defs
public import proofs.«01_k».proof.Proof.FrameBits
public import proofs.«01_k».proof.Proof.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  quiescent_Kernel, fun m g _ => Cert.KernelIdeal.Hand.quiescent_any m g,
  fun m g _ => Cert.ReferenceIdeal.Gen.frame m g, trivial, algebraic⟩

end Cert.Proof

end
